-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear_top_ten [hPre_clear_top_ten : Cert.Pre_clear_top_ten.Facts] (m : (ℓ : Loc Cert.KernelIdeal.nD Cert.KernelIdeal.τ Cert.KernelIdeal.sig) → Buf (Elt Ideal) ℓ) : Prop :=
  ∀ c : Dev Cert.KernelIdeal.nD,
    (Cert.Pre_clear_top_ten.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear_top_ten [hPre_clear_top_ten : Cert.Pre_clear_top_ten.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear_top_ten.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_clear_top_ten [hKernelIdeal : Cert.KernelIdeal.Facts] [hPre_clear_top_ten : Cert.Pre_clear_top_ten.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear_top_ten m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_clear_top_ten [hReferenceIdeal : Cert.ReferenceIdeal.Facts] [hPre_clear_top_ten : Cert.Pre_clear_top_ten.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear_top_ten m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_clear_top_ten [hKernelIdeal : Cert.KernelIdeal.Facts] [hReferenceIdeal : Cert.ReferenceIdeal.Facts] [hPre_clear_top_ten : Cert.Pre_clear_top_ten.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear_top_ten m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_clear_top_ten : Cert.Pre_clear_top_ten.Facts),
    quiescent_Kernel (hKernel := hKernel)
    ∧ quiescent_KernelIdeal (hKernelIdeal := hKernelIdeal)
    ∧ quiescent_KernelIdeal_pre_clear_top_ten (hKernelIdeal := hKernelIdeal) (hPre_clear_top_ten := hPre_clear_top_ten)
    ∧ quiescent_ReferenceIdeal (hReferenceIdeal := hReferenceIdeal)
    ∧ quiescent_ReferenceIdeal_pre_clear_top_ten (hReferenceIdeal := hReferenceIdeal) (hPre_clear_top_ten := hPre_clear_top_ten)
    ∧ preserves_Kernel_KernelIdeal
    ∧ algebraic_KernelIdeal_ReferenceIdeal_pre_clear_top_ten (hKernelIdeal := hKernelIdeal) (hReferenceIdeal := hReferenceIdeal) (hPre_clear_top_ten := hPre_clear_top_ten)
-- ==== Pre_clear_top_ten.lean ====
abbrev S4096x128 : Shape := ⟨2, ![4096, 128]⟩
abbrev S16384x128 : Shape := ⟨2, ![16384, 128]⟩
abbrev S_ : Shape := ⟨0, ![]⟩
abbrev S4096 : Shape := ⟨1, ![4096]⟩
abbrev S4096x1 : Shape := ⟨2, ![4096, 1]⟩
abbrev S12288x128 : Shape := ⟨2, ![12288, 128]⟩
abbrev S16384 : Shape := ⟨1, ![16384]⟩
abbrev S16384x1 : Shape := ⟨2, ![16384, 1]⟩
abbrev S128x16384 : Shape := ⟨2, ![128, 16384]⟩
abbrev S4096x16384 : Shape := ⟨2, ![4096, 16384]⟩
abbrev S4096x10 : Shape := ⟨2, ![4096, 10]⟩
abbrev S4096x9 : Shape := ⟨2, ![4096, 9]⟩

class Facts : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  slices_S16384x128_S4096x128_0_0 : S16384x128.Slices ![0, 0] S4096x128
  bcast_S_S4096x128 : S_.BroadcastsInDim S4096x128 (![] : Fin 0 → Fin S4096x128.rank)
  slices_S16384x128_S12288x128_4096_0 : S16384x128.Slices ![4096, 0] S12288x128
  concatenates_S4096x128_S12288x128_S16384x128_d0 : Shape.Concatenates [S4096x128, S12288x128] S16384x128 0
  reducesTo_S16384x128_S16384_d1 : S16384x128.ReducesTo [1] S16384
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  transposes_S16384x128_S128x16384_1_0 : S16384x128.Transposes [1, 0] S128x16384
  sliceFits_S4096x16384_S4096x10 : S4096x16384.Slices (fun _ => 0) S4096x10
  reducesTo_S4096x1_S_d0_1 : S4096x1.ReducesTo [0, 1] S_
  slices_S4096x10_S4096x9_0_0 : S4096x10.Slices ![0, 0] S4096x9
  slices_S4096x10_S4096x9_0_1 : S4096x10.Slices ![0, 1] S4096x9
  reducesTo_S4096x9_S_d0_1 : S4096x9.ReducesTo [0, 1] S_
  dot_S4096x128_S128x16384_S4096x16384_1_0_0_1_n_n_wf : DotDims.WF S4096x128 S128x16384 S4096x16384 [1] [0] [0] [1] [] []

variable [Facts]

def dot_S4096x128_S128x16384_S4096x16384_1_0_0_1_n_n : DotDims S4096x128 S128x16384 S4096x16384 where
  lhsContracting := [1]
  rhsContracting := [0]
  lhsNonContracting := [0]
  rhsNonContracting := [1]
  lhsBatch := []
  rhsBatch := []
  wf := dot_S4096x128_S128x16384_S4096x16384_1_0_0_1_n_n_wf
def fn_norm {F : FTy → Type} [FloatOps F] (arg0 : FVec F S4096x128 .f32) : FVec F S4096x1 .f32 :=
  let v0 : FVec F S4096x128 .f32 := mulf arg0 arg0
  let cst : FVec F S_ .f32 := constant S_ .f32 0x00000000#32
  let v1 : FVec F S4096 .f32 := (fun x v => Host.reduceAdd x v reducesTo_S4096x128_S4096_d1 h_S_) v0 cst
  let v2 : FVec F S4096x1 .f32 := broadcastInDim S4096x1 ![0] bcast_S4096_S4096x1_0 v1
  let v3 : FVec F S4096x1 .f32 := Host.sqrt v2
  v3

def fn_clip {F : FTy → Type} [FloatOps F] (arg0 : FVec F S4096x1 .f32) (arg1 : FVec F S_ .f32) : FVec F S4096x1 .f32 :=
  let v0 : FVec F S_ .f32 := id arg1
  let v1 : FVec F S4096x1 .f32 := broadcastInDim S4096x1 ![] bcast_S_S4096x1 v0
  let v2 : FVec F S4096x1 .f32 := maximumf v1 arg0
  v2

def fn_norm_0 {F : FTy → Type} [FloatOps F] (arg0 : FVec F S4096x128 .f32) : FVec F S4096x1 .f32 :=
  let v0 : FVec F S4096x128 .f32 := mulf arg0 arg0
  let cst : FVec F S_ .f32 := constant S_ .f32 0x00000000#32
  let v1 : FVec F S4096 .f32 := (fun x v => Host.reduceAdd x v reducesTo_S4096x128_S4096_d1 h_S_) v0 cst
  let v2 : FVec F S4096x1 .f32 := broadcastInDim S4096x1 ![0] bcast_S4096_S4096x1_0 v1
  let v3 : FVec F S4096x1 .f32 := Host.sqrt v2
  v3

def fn_norm_1 {F : FTy → Type} [FloatOps F] (arg0 : FVec F S16384x128 .f32) : FVec F S16384x1 .f32 :=
  let v0 : FVec F S16384x128 .f32 := mulf arg0 arg0
  let cst : FVec F S_ .f32 := constant S_ .f32 0x00000000#32
  let v1 : FVec F S16384 .f32 := (fun x v => Host.reduceAdd x v reducesTo_S16384x128_S16384_d1 h_S_) v0 cst
  let v2 : FVec F S16384x1 .f32 := broadcastInDim S16384x1 ![0] bcast_S16384_S16384x1_0 v1
  let v3 : FVec F S16384x1 .f32 := Host.sqrt v2
  v3

def fn_clip_2 {F : FTy → Type} [FloatOps F] (arg0 : FVec F S16384x1 .f32) (arg1 : FVec F S_ .f32) : FVec F S16384x1 .f32 :=
  let v0 : FVec F S_ .f32 := id arg1
  let v1 : FVec F S16384x1 .f32 := broadcastInDim S16384x1 ![] bcast_S_S16384x1 v0
  let v2 : FVec F S16384x1 .f32 := maximumf v1 arg0
  v2

def fn_part1 {F : FTy → Type} [FloatOps F] (main_v3 : FVec F S4096x128 .f32) (main_v12 : IVec S4096x1 1) (main_v18 : FVec F S16384x128 .f32) : IVec S_ 1 :=
  let main_v19 : FVec F S128x16384 .f32 := (transpose S128x16384 [1, 0] · transposes_S16384x128_S128x16384_1_0) main_v18
  let main_v20 : FVec F S4096x16384 .f32 := (fun l r => Host.dotGeneral dot_S4096x128_S128x16384_S4096x16384_1_0_0_1_n_n none l r) main_v3 main_v19
  let main_values : FVec F S4096x10 .f32 := (fun x => (Host.topK S4096x10 1 (FloatOps.cmpfTotal .gt) x sliceFits_S4096x16384_S4096x10).1) main_v20
  let main_indices : IVec S4096x10 32 := (fun x => (Host.topK S4096x10 1 (FloatOps.cmpfTotal .gt) x sliceFits_S4096x16384_S4096x10).2) main_v20
  let main_c : IVec S_ 1 := constantI S_ 1 1#1
  let main_v21 : IVec S_ 1 := (fun x v => Host.reduce IntOp.andi x v reducesTo_S4096x1_S_d0_1 h_S_) main_v12 main_c
  let main_v22 : FVec F S4096x9 .f32 := (extractStridedSlice S4096x9 ![0, 0] · slices_S4096x10_S4096x9_0_0) main_values
  let main_v23 : FVec F S4096x9 .f32 := (extractStridedSlice S4096x9 ![0, 1] · slices_S4096x10_S4096x9_0_1) main_values
  let main_v24 : IVec S4096x9 1 := cmpf .ogt main_v22 main_v23
  let main_c_4 : IVec S_ 1 := constantI S_ 1 1#1
  let main_v25 : IVec S_ 1 := (fun x v => Host.reduce IntOp.andi x v reducesTo_S4096x9_S_d0_1 h_S_) main_v24 main_c_4
  let main_v26 : IVec S_ 1 := andi main_v21 main_v25
  main_v26

def fn {F : FTy → Type} [FloatOps F] (main_arg0 : FVec F S4096x128 .f32) (main_arg1 : FVec F S16384x128 .f32) : IVec S_ 1 :=
  let main_v0 : FVec F S4096x1 .f32 := fn_norm (F := F) main_arg0
  let main_cst : FVec F S_ .f32 := constant S_ .f32 0x2B8CBCCC#32
  let main_v1 : FVec F S4096x1 .f32 := fn_clip (F := F) main_v0 main_cst
  let main_v2 : FVec F S4096x128 .f32 := broadcastInDim S4096x128 ![0, 1] bcast_S4096x1_S4096x128_0_1 main_v1
  let main_v3 : FVec F S4096x128 .f32 := Host.divf main_arg0 main_v2
  let main_v4 : FVec F S4096x128 .f32 := (extractStridedSlice S4096x128 ![0, 0] · slices_S16384x128_S4096x128_0_0) main_arg1
  let main_cst_0 : FVec F S_ .f32 := constant S_ .f32 0x3F7EB852#32
  let main_v5 : FVec F S4096x128 .f32 := broadcastInDim S4096x128 ![] bcast_S_S4096x128 main_cst_0
  let main_v6 : FVec F S4096x128 .f32 := mulf main_v5 main_v4
  let main_cst_1 : FVec F S_ .f32 := constant S_ .f32 0x3BA3D70A#32
  let main_v7 : FVec F S4096x128 .f32 := broadcastInDim S4096x128 ![] bcast_S_S4096x128 main_cst_1
  let main_v8 : FVec F S4096x128 .f32 := mulf main_v7 main_v3
  let main_v9 : FVec F S4096x128 .f32 := addf main_v6 main_v8
  let main_v10 : FVec F S4096x1 .f32 := fn_norm_0 (F := F) main_v9
  let main_cst_2 : FVec F S_ .f32 := constant S_ .f32 0x2B8CBCCC#32
  let main_v11 : FVec F S4096x1 .f32 := broadcastInDim S4096x1 ![] bcast_S_S4096x1 main_cst_2
  let main_v12 : IVec S4096x1 1 := cmpf .oge main_v10 main_v11
  let main_v13 : FVec F S12288x128 .f32 := (extractStridedSlice S12288x128 ![4096, 0] · slices_S16384x128_S12288x128_4096_0) main_arg1
  let main_v14 : FVec F S16384x128 .f32 := (fun a b => concatenate S16384x128 0 [⟨S4096x128, a⟩, ⟨S12288x128, b⟩] concatenates_S4096x128_S12288x128_S16384x128_d0) main_v9 main_v13
  let main_v15 : FVec F S16384x1 .f32 := fn_norm_1 (F := F) main_v14
  let main_cst_3 : FVec F S_ .f32 := constant S_ .f32 0x2B8CBCCC#32
  let main_v16 : FVec F S16384x1 .f32 := fn_clip_2 (F := F) main_v15 main_cst_3
  let main_v17 : FVec F S16384x128 .f32 := broadcastInDim S16384x128 ![0, 1] bcast_S16384x1_S16384x128_0_1 main_v16
  let main_v18 : FVec F S16384x128 .f32 := Host.divf main_v14 main_v17
  fn_part1 (F := F) main_v3 main_v12 main_v18
-- ==== Kernel.lean ====
abbrev S4096x128 : Shape := ⟨2, ![4096, 128]⟩
abbrev S16384x128 : Shape := ⟨2, ![16384, 128]⟩
abbrev S4096x1 : Shape := ⟨2, ![4096, 1]⟩
abbrev S512x128 : Shape := ⟨2, ![512, 128]⟩
abbrev S512x1 : Shape := ⟨2, ![512, 1]⟩
abbrev S512x16 : Shape := ⟨2, ![512, 16]⟩
abbrev S512 : Shape := ⟨1, ![512]⟩
abbrev S512x512 : Shape := ⟨2, ![512, 512]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S16384x128, .f32⟩
  | .hbm, ⟨2, _⟩ => ⟨S4096x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x1, .f32⟩
  | .local _ .vmem, ⟨7, _⟩ => ⟨S512x1, .f32⟩
  | .local _ .vmem, ⟨8, _⟩ => ⟨S512x128, .f32⟩
  | .local _ .vmem, ⟨9, _⟩ => ⟨S512x16, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v208 : BitVec 1 := Scalar.cmpi .eq arg1 c31_i32
  let v209 : BitVec 32 := Scalar.extui v208
  let c0_i32_57 : BitVec 32 := 0#32
  let v210 : BitVec 1 := Scalar.cmpi .ne v209 c0_i32_57
  v210

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S4096x128 : Shape := ⟨2, ![4096, 128]⟩
abbrev S16384x128 : Shape := ⟨2, ![16384, 128]⟩
abbrev S_ : Shape := ⟨0, ![]⟩
abbrev S4096 : Shape := ⟨1, ![4096]⟩
abbrev S4096x1 : Shape := ⟨2, ![4096, 1]⟩
abbrev S16384 : Shape := ⟨1, ![16384]⟩
abbrev S16384x1 : Shape := ⟨2, ![16384, 1]⟩
abbrev S128x16384 : Shape := ⟨2, ![128, 16384]⟩
abbrev S4096x16384 : Shape := ⟨2, ![4096, 16384]⟩
abbrev S4096x10 : Shape := ⟨2, ![4096, 10]⟩

abbrev nBuf : Space → Nat
  | .hbm => 128
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S16384x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x128, .f32⟩
  | .hbm, ⟨12, _⟩ => ⟨S4096x128, .f32⟩
  | .hbm, ⟨13, _⟩ => ⟨S4096, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S_, .i1⟩
  | .hbm, ⟨30, _⟩ => ⟨S4096, .i1⟩
  | .hbm, ⟨31, _⟩ => ⟨S4096, .i1⟩
  | .hbm, ⟨32, _⟩ => ⟨S4096, .i1⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096x128, .f32⟩
  | .hbm, ⟨45, _⟩ => ⟨S_, .f32⟩
  | .hbm, ⟨46, _⟩ => ⟨S4096x128, .f32⟩
  | .hbm, ⟨47, _⟩ => ⟨S4096x128, .f32⟩
  | .hbm, ⟨48, _⟩ => ⟨S_, .f32⟩
  | .hbm, ⟨49, _⟩ => ⟨S4096x128, .f32⟩
  | .hbm, ⟨50, _⟩ => ⟨S4096x128, .f32⟩
  | .hbm, ⟨51, _⟩ => ⟨S4096x128, .f32⟩
  | .hbm, ⟨52, _⟩ => ⟨S_, .i32⟩
  | .hbm, ⟨53, _⟩ => ⟨S4096, .i32⟩
  | .hbm, ⟨54, _⟩ => ⟨S4096, .i1⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .i32⟩
  | .hbm, ⟨59, _⟩ => ⟨S4096x1, .i32⟩
  | .hbm, ⟨60, _⟩ => ⟨S16384x128, .f32⟩
  | .hbm, ⟨61, _⟩ => ⟨S_, .i32⟩
  | .hbm, ⟨62, _⟩ => ⟨S4096, .i32⟩
  | .hbm, ⟨63, _⟩ => ⟨S4096, .i1⟩
  | .hbm, ⟨64, _⟩ => ⟨S_, .i32⟩
  | .hbm, ⟨65, _⟩ => ⟨S4096, .i32⟩
  | .hbm, ⟨66, _⟩ => ⟨S4096, .i32⟩
  | .hbm, ⟨67, _⟩ => ⟨S4096, .i32⟩
  | .hbm, ⟨68, _⟩ => ⟨S4096x1, .i32⟩
  | .hbm, ⟨69, _⟩ => ⟨S4096x128, .f32⟩
  | .hbm, ⟨70, _⟩ => ⟨S4096x128, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S4096x128, .f32⟩
  | .hbm, ⟨80, _⟩ => ⟨S4096x128, .f32⟩
  | .hbm, ⟨81, _⟩ => ⟨S_, .i32⟩
  | .hbm, ⟨82, _⟩ => ⟨S4096, .i32⟩
  | .hbm, ⟨83, _⟩ => ⟨S4096, .i1⟩
  | .hbm, ⟨84, _⟩ => ⟨S_, .i32⟩
  | .hbm, ⟨85, _⟩ => ⟨S4096, .i32⟩
  | .hbm, ⟨86, _⟩ => ⟨S4096, .i32⟩
  | .hbm, ⟨87, _⟩ => ⟨S4096, .i32⟩
  | .hbm, ⟨88, _⟩ => ⟨S4096x1, .i32⟩
  | .hbm, ⟨89, _⟩ => ⟨S16384x128, .f32⟩
  | .hbm, ⟨90, _⟩ => ⟨S4096x128, .f32⟩
  | .hbm, ⟨91, _⟩ => ⟨S_, .f32⟩
  | .hbm, ⟨92, _⟩ => ⟨S4096, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S4096x128, .f32⟩
  | .hbm, ⟨100, _⟩ => ⟨S4096x128, .f32⟩
  | .hbm, ⟨101, _⟩ => ⟨S16384x128, .f32⟩
  | .hbm, ⟨102, _⟩ => ⟨S_, .f32⟩
  | .hbm, ⟨103, _⟩ => ⟨S16384, .f32⟩
  | .hbm, ⟨104, _⟩ => ⟨S16384x1, .f32⟩
  | .hbm, ⟨105, _⟩ => ⟨S16384x1, .f32⟩
  | .hbm, ⟨106, _⟩ => ⟨S_, .f32⟩
  | .hbm, ⟨107, _⟩ => ⟨S_, .f32⟩
  | .hbm, ⟨108, _⟩ => ⟨S16384x1, .f32⟩
  | .hbm, ⟨109, _⟩ => ⟨S16384x1, .f32⟩
  | .hbm, ⟨110, _⟩ => ⟨S16384x128, .f32⟩
  | .hbm, ⟨111, _⟩ => ⟨S16384x128, .f32⟩
  | .hbm, ⟨112, _⟩ => ⟨S128x16384, .f32⟩
  | .hbm, ⟨113, _⟩ => ⟨S4096x16384, .f32⟩
  | .hbm, ⟨114, _⟩ => ⟨S4096x10, .f32⟩
  | .hbm, ⟨115, _⟩ => ⟨S4096x10, .i32⟩
  | .hbm, ⟨116, _⟩ => ⟨S_, .f32⟩
  | .hbm, ⟨117, _⟩ => ⟨S4096, .f32⟩
  | .hbm, ⟨118, _⟩ => ⟨S_, .f32⟩
  | .hbm, ⟨119, _⟩ => ⟨S4096, .f32⟩
  | .hbm, ⟨120, _⟩ => ⟨S4096, .f32⟩
  | .hbm, ⟨121, _⟩ => ⟨S_, .f32⟩
  | .hbm, ⟨122, _⟩ => ⟨S4096, .f32⟩
  | .hbm, ⟨123, _⟩ => ⟨S4096, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call2_v0 : Ref sig .tc := ⟨.hbm, 15, rfl⟩
abbrev main_call2_c : Ref sig .tc := ⟨.hbm, 16, rfl⟩
abbrev main_call2_v1 : Ref sig .tc := ⟨.hbm, 17, rfl⟩
abbrev main_call2_c_0 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_call2_c_1 : Ref sig .tc := ⟨.hbm, 22, rfl⟩
abbrev main_call2_v5 : Ref sig .tc := ⟨.hbm, 23, rfl⟩
abbrev main_call2_v6 : Ref sig .tc := ⟨.hbm, 24, rfl⟩
abbrev main_call2_c_2 : Ref sig .tc := ⟨.hbm, 25, rfl⟩
abbrev main_call2_v7 : Ref sig .tc := ⟨.hbm, 26, rfl⟩
abbrev main_call2_v8 : Ref sig .tc := ⟨.hbm, 27, rfl⟩
abbrev main_call2_c_3 : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_call2_v12 : Ref sig .tc := ⟨.hbm, 32, rfl⟩
abbrev main_call2_v13 : Ref sig .tc := ⟨.hbm, 33, rfl⟩
abbrev main_call2_v14 : Ref sig .tc := ⟨.hbm, 34, rfl⟩
abbrev main_v5 : Ref sig .tc := ⟨.hbm, 35, rfl⟩
abbrev main_c_0 : Ref sig .tc := ⟨.hbm, 36, rfl⟩
abbrev main_v6 : Ref sig .tc := ⟨.hbm, 37, rfl⟩
abbrev main_v7 : Ref sig .tc := ⟨.hbm, 38, rfl⟩
abbrev main_c_1 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_cst_2 : Ref sig .tc := ⟨.hbm, 45, rfl⟩
abbrev main_v13 : Ref sig .tc := ⟨.hbm, 46, rfl⟩
abbrev main_v14 : Ref sig .tc := ⟨.hbm, 47, rfl⟩
abbrev main_cst_3 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_c_4 : Ref sig .tc := ⟨.hbm, 52, rfl⟩
abbrev main_v18 : Ref sig .tc := ⟨.hbm, 53, rfl⟩
abbrev main_v19 : Ref sig .tc := ⟨.hbm, 54, rfl⟩
abbrev main_c_5 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_c_6 : Ref sig .tc := ⟨.hbm, 61, rfl⟩
abbrev main_v25 : Ref sig .tc := ⟨.hbm, 62, rfl⟩
abbrev main_v26 : Ref sig .tc := ⟨.hbm, 63, rfl⟩
abbrev main_c_7 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_call3_v0 : Ref sig .tc := ⟨.hbm, 70, rfl⟩
abbrev main_call3_cst : Ref sig .tc := ⟨.hbm, 71, rfl⟩
abbrev main_call3_v1 : Ref sig .tc := ⟨.hbm, 72, rfl⟩
abbrev main_call3_v2 : Ref sig .tc := ⟨.hbm, 73, rfl⟩
abbrev main_v32 : Ref sig .tc := ⟨.hbm, 74, rfl⟩
abbrev main_cst_8 : Ref sig .tc := ⟨.hbm, 75, rfl⟩
abbrev main_call4_v0 : Ref sig .tc := ⟨.hbm, 76, rfl⟩
abbrev main_call4_v1 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_c_9 : Ref sig .tc := ⟨.hbm, 81, rfl⟩
abbrev main_v36 : Ref sig .tc := ⟨.hbm, 82, rfl⟩
abbrev main_v37 : Ref sig .tc := ⟨.hbm, 83, rfl⟩
abbrev main_c_10 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_call5_v0 : Ref sig .tc := ⟨.hbm, 90, rfl⟩
abbrev main_call5_cst : Ref sig .tc := ⟨.hbm, 91, rfl⟩
abbrev main_call5_v1 : Ref sig .tc := ⟨.hbm, 92, rfl⟩
abbrev main_call5_v2 : Ref sig .tc := ⟨.hbm, 93, rfl⟩
abbrev main_v43 : Ref sig .tc := ⟨.hbm, 94, rfl⟩
abbrev main_cst_11 : Ref sig .tc := ⟨.hbm, 95, rfl⟩
abbrev main_call6_v0 : Ref sig .tc := ⟨.hbm, 96, rfl⟩
abbrev main_call6_v1 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_call7_v0 : Ref sig .tc := ⟨.hbm, 101, rfl⟩
abbrev main_call7_cst : Ref sig .tc := ⟨.hbm, 102, rfl⟩
abbrev main_call7_v1 : Ref sig .tc := ⟨.hbm, 103, rfl⟩
abbrev main_call7_v2 : Ref sig .tc := ⟨.hbm, 104, rfl⟩
abbrev main_v47 : Ref sig .tc := ⟨.hbm, 105, rfl⟩
abbrev main_cst_12 : Ref sig .tc := ⟨.hbm, 106, rfl⟩
abbrev main_call8_v0 : Ref sig .tc := ⟨.hbm, 107, rfl⟩
abbrev main_call8_v1 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_values : Ref sig .tc := ⟨.hbm, 114, rfl⟩
abbrev main_indices : Ref sig .tc := ⟨.hbm, 115, rfl⟩
abbrev main_cst_13 : Ref sig .tc := ⟨.hbm, 116, rfl⟩
abbrev main_v53 : Ref sig .tc := ⟨.hbm, 117, rfl⟩
abbrev main_cst_14 : Ref sig .tc := ⟨.hbm, 118, rfl⟩
abbrev main_v54 : Ref sig .tc := ⟨.hbm, 119, rfl⟩
abbrev main_v55 : Ref sig .tc := ⟨.hbm, 120, rfl⟩
abbrev main_cst_15 : Ref sig .tc := ⟨.hbm, 121, rfl⟩
abbrev main_v56 : Ref sig .tc := ⟨.hbm, 122, rfl⟩
abbrev main_v57 : Ref sig .tc := ⟨.hbm, 123, rfl⟩
abbrev main_cst_16 : Ref sig .tc := ⟨.hbm, 124, rfl⟩
abbrev main_v58 : Ref sig .tc := ⟨.hbm, 125, rfl⟩
abbrev main_cst_17 : Ref sig .tc := ⟨.hbm, 126, rfl⟩
abbrev main_v59 : Ref sig .tc := ⟨.hbm, 127, rfl⟩

abbrev nD : Nat := 1
abbrev τ : Topo := Topo.v7x

variable {F : FTy → Type} [FloatOps F]
-- ==== Proof.Rounds.lean ====
/-
  The ten rounds of the kernel's body, named: a round takes the greatest of a row's similarities and kept values and
  overwrites every copy of it. The printed values of the body are these rounds.
-/
module

public import proofs.«01_k».proof.Proof.Gen.KernelIdeal.Skeleton

@[expose] public section

set_option maxRecDepth 16384

noncomputable section

namespace Cert.KernelIdeal.Top

open Idealize.ShloMosaic Cert.KernelIdeal.Gen

variable {F : FTy → Type} [FloatOps F]

/-- Each row's greatest value, over its similarities and its kept values. -/
def mx (X : FVec F S512x512 .f32) (V : FVec F S512x16 .f32) : FVec F S512x1 .f32 :=
  maximumf (shapeCast S512x1 (multiReduction .maximumf [1] S512 X 0xFF800000#32 reduces_S512x512_S512 (.inl rfl) rfl) shapeCasts_S512_S512x1)
    (shapeCast S512x1 (multiReduction .maximumf [1] S512 V 0xFF800000#32 reduces_S512x16_S512 (.inl rfl) rfl) shapeCasts_S512_S512x1)
/-- A row value at every similarity of the row. -/
def bX (M : FVec F S512x1 .f32) : FVec F S512x512 .f32 := broadcastTo S512x512 M broadcasts_S512x1_S512x512
/-- The similarities with the copies of the row value overwritten. -/
def mkX (X : FVec F S512x512 .f32) (M : FVec F S512x1 .f32) : FVec F S512x512 .f32 :=
  select (cmpf .oeq X (bX M)) (broadcast S512x512 (Scalar.ofBits .f32 0xF149F2CA#32)) X
/-- The kept values with the copies of the row value overwritten. -/
def mkV (V : FVec F S512x16 .f32) (M : FVec F S512x1 .f32) : FVec F S512x16 .f32 :=
  select (cmpf .oeq V (broadcastTo S512x16 M broadcasts_S512x1_S512x16)) (broadcast S512x16 (Scalar.ofBits .f32 0xF149F2CA#32)) V

/-- Similarities and kept values after `k` rounds. -/
def rd (X : FVec F S512x512 .f32) (V : FVec F S512x16 .f32) : ℕ → FVec F S512x512 .f32 × FVec F S512x16 .f32
  | 0 => (X, V)
  | k + 1 => (mkX (rd X V k).1 (mx (rd X V k).1 (rd X V k).2), mkV (rd X V k).2 (mx (rd X V k).1 (rd X V k).2))
/-- The value round `k` takes, counted from zero. -/
def ms (X : FVec F S512x512 .f32) (V : FVec F S512x16 .f32) (k : ℕ) : FVec F S512x1 .f32 := mx (rd X V k).1 (rd X V k).2

variable (X : FVec F S512x512 .f32) (V : FVec F S512x16 .f32)

theorem rd_succ (k : ℕ) : rd X V (k + 1) = (mkX (rd X V k).1 (ms X V k), mkV (rd X V k).2 (ms X V k)) := rfl
theorem rd_add (j k : ℕ) : rd (rd X V j).1 (rd X V j).2 k = rd X V (j + k) := by
  induction k with
  | zero => rfl
  | succ k ih => rw [← Nat.add_assoc, rd_succ, rd_succ, ms, ms, ih]
theorem ms_add (j k : ℕ) : ms (rd X V j).1 (rd X V j).2 k = ms X V (j + k) := by rw [ms, ms, rd_add]

theorem pay8_eq (M : FVec F S512x1 .f32) : k0_pay8 X (bX M) = mkX X M := rfl
theorem pay9_eq (M : FVec F S512x1 .f32) : k0_pay9 V M = mkV V M := rfl
theorem pay10_eq (M : FVec F S512x1 .f32) (B : FVec F S512x512 .f32) : k0_pay10 X V M B = mx (k0_pay8 X B) (k0_pay9 V M) := rfl
theorem pay11_eq (M : FVec F S512x1 .f32) (B : FVec F S512x512 .f32) : k0_pay11 X V M B = mkX (k0_pay8 X B) (k0_pay10 X V M B) := rfl
theorem pay12_eq (M : FVec F S512x1 .f32) (B : FVec F S512x512 .f32) : k0_pay12 X V M B = mkV (k0_pay9 V M) (k0_pay10 X V M B) := rfl
theorem pay13_eq (M : FVec F S512x1 .f32) (B : FVec F S512x512 .f32) : k0_pay13 X V M B = mx (k0_pay11 X V M B) (k0_pay12 X V M B) := rfl
theorem pay14_eq (M : FVec F S512x1 .f32) (B : FVec F S512x512 .f32) : k0_pay14 X V M B = mkX (k0_pay11 X V M B) (k0_pay13 X V M B) := rfl
theorem pay15_eq (M : FVec F S512x1 .f32) (B : FVec F S512x512 .f32) : k0_pay15 X V M B = mkV (k0_pay12 X V M B) (k0_pay13 X V M B) := rfl
theorem pay16_eq (M : FVec F S512x1 .f32) (B : FVec F S512x512 .f32) : k0_pay16 X V M B = mx (k0_pay14 X V M B) (k0_pay15 X V M B) := rfl
theorem pay17_eq (M : FVec F S512x1 .f32) (B : FVec F S512x512 .f32) : k0_pay17 X V M B = mkX (k0_pay14 X V M B) (k0_pay16 X V M B) := rfl
theorem pay18_eq (M : FVec F S512x1 .f32) (B : FVec F S512x512 .f32) : k0_pay18 X V M B = mkV (k0_pay15 X V M B) (k0_pay16 X V M B) := rfl

theorem r10 : k0_pay10 X V (ms X V 0) (bX (ms X V 0)) = ms X V 1 := by rw [pay10_eq, pay8_eq, pay9_eq]; rfl
theorem r11 : k0_pay11 X V (ms X V 0) (bX (ms X V 0)) = (rd X V 2).1 := by rw [pay11_eq, r10, pay8_eq]; rfl
theorem r12 : k0_pay12 X V (ms X V 0) (bX (ms X V 0)) = (rd X V 2).2 := by rw [pay12_eq, r10, pay9_eq]; rfl
theorem r13 : k0_pay13 X V (ms X V 0) (bX (ms X V 0)) = ms X V 2 := by rw [pay13_eq, r11, r12]; rfl
theorem r14 : k0_pay14 X V (ms X V 0) (bX (ms X V 0)) = (rd X V 3).1 := by rw [pay14_eq, r11, r13]; rfl
theorem r15 : k0_pay15 X V (ms X V 0) (bX (ms X V 0)) = (rd X V 3).2 := by rw [pay15_eq, r12, r13]; rfl
theorem r16 : k0_pay16 X V (ms X V 0) (bX (ms X V 0)) = ms X V 3 := by rw [pay16_eq, r14, r15]; rfl
theorem r17 : k0_pay17 X V (ms X V 0) (bX (ms X V 0)) = (rd X V 4).1 := by rw [pay17_eq, r14, r16]; rfl
theorem r18 : k0_pay18 X V (ms X V 0) (bX (ms X V 0)) = (rd X V 4).2 := by rw [pay18_eq, r15, r16]; rfl

theorem pay20_eq : k0_pay20 X V = mkX X (k0_pay19 X V) := rfl
theorem pay21_eq : k0_pay21 X V = mkV V (k0_pay19 X V) := rfl
theorem pay22_eq : k0_pay22 X V = mx (k0_pay20 X V) (k0_pay21 X V) := rfl
theorem pay23_eq : k0_pay23 X V = mkX (k0_pay20 X V) (k0_pay22 X V) := rfl
theorem pay24_eq : k0_pay24 X V = mkV (k0_pay21 X V) (k0_pay22 X V) := rfl
theorem pay25_eq : k0_pay25 X V = mx (k0_pay23 X V) (k0_pay24 X V) := rfl
theorem pay26_eq : k0_pay26 X V = mkX (k0_pay23 X V) (k0_pay25 X V) := rfl
theorem pay27_eq : k0_pay27 X V = mkV (k0_pay24 X V) (k0_pay25 X V) := rfl
theorem pay28_eq : k0_pay28 X V = mx (k0_pay26 X V) (k0_pay27 X V) := rfl
theorem pay29_eq : k0_pay29 X V = cmpf .oeq (k0_pay26 X V) (bX (k0_pay28 X V)) := rfl

theorem s19 : k0_pay19 X V = ms X V 0 := rfl
theorem s20 : k0_pay20 X V = (rd X V 1).1 := by rw [pay20_eq, s19]; rfl
theorem s21 : k0_pay21 X V = (rd X V 1).2 := by rw [pay21_eq, s19]; rfl
theorem s22 : k0_pay22 X V = ms X V 1 := by rw [pay22_eq, s20, s21]; rfl
theorem s23 : k0_pay23 X V = (rd X V 2).1 := by rw [pay23_eq, s20, s22]; rfl
theorem s24 : k0_pay24 X V = (rd X V 2).2 := by rw [pay24_eq, s21, s22]; rfl
theorem s25 : k0_pay25 X V = ms X V 2 := by rw [pay25_eq, s23, s24]; rfl
theorem s26 : k0_pay26 X V = (rd X V 3).1 := by rw [pay26_eq, s23, s25]; rfl
theorem s27 : k0_pay27 X V = (rd X V 3).2 := by rw [pay27_eq, s24, s25]; rfl
theorem s28 : k0_pay28 X V = ms X V 3 := by rw [pay28_eq, s26, s27]; rfl

theorem pay30_eq (M : FVec F S512x1 .f32) : k0_pay30 X (cmpf .oeq X (bX M)) = mkX X M := rfl
theorem pay31_eq (M : FVec F S512x1 .f32) : k0_pay31 V M = mkV V M := rfl
theorem pay32_eq (M : FVec F S512x1 .f32) (C : IVec S512x512 1) : k0_pay32 X V M C = mx (k0_pay30 X C) (k0_pay31 V M) := rfl
theorem pay33_eq (M : FVec F S512x1 .f32) (C : IVec S512x512 1) :
    k0_pay33 X V M C = mx (mkX (k0_pay30 X C) (k0_pay32 X V M C)) (mkV (k0_pay31 V M) (k0_pay32 X V M C)) := rfl

theorem u32 : k0_pay32 X V (ms X V 0) (cmpf .oeq X (bX (ms X V 0))) = ms X V 1 := by rw [pay32_eq, pay30_eq, pay31_eq]; rfl
theorem u33 : k0_pay33 X V (ms X V 0) (cmpf .oeq X (bX (ms X V 0))) = ms X V 2 := by rw [pay33_eq, u32, pay30_eq, pay31_eq]; rfl

/-! ## The six values the body's second half takes, over the first half's -/

theorem t19 : k0_pay19 (rd X V 4).1 (rd X V 4).2 = ms X V 4 := by rw [s19, ms_add]
theorem t22 : k0_pay22 (rd X V 4).1 (rd X V 4).2 = ms X V 5 := by rw [s22, ms_add]
theorem t25 : k0_pay25 (rd X V 4).1 (rd X V 4).2 = ms X V 6 := by rw [s25, ms_add]
theorem t26 : k0_pay26 (rd X V 4).1 (rd X V 4).2 = (rd X V 7).1 := by rw [s26, rd_add]
theorem t27 : k0_pay27 (rd X V 4).1 (rd X V 4).2 = (rd X V 7).2 := by rw [s27, rd_add]
theorem t28 : k0_pay28 (rd X V 4).1 (rd X V 4).2 = ms X V 7 := by rw [s28, ms_add]
theorem t29 : k0_pay29 (rd X V 4).1 (rd X V 4).2 = cmpf .oeq (rd X V 7).1 (bX (ms X V 7)) := by rw [pay29_eq, t26, t28]
theorem t32 : k0_pay32 (rd X V 7).1 (rd X V 7).2 (ms X V 7) (cmpf .oeq (rd X V 7).1 (bX (ms X V 7))) = ms X V 8 := by
  have h := u32 (rd X V 7).1 (rd X V 7).2
  rw [ms_add, ms_add] at h; exact h
theorem t33 : k0_pay33 (rd X V 7).1 (rd X V 7).2 (ms X V 7) (cmpf .oeq (rd X V 7).1 (bX (ms X V 7))) = ms X V 9 := by
  have h := u33 (rd X V 7).1 (rd X V 7).2
  rw [ms_add, ms_add] at h; exact h

/-- The kept values a block leaves: the ten values taken, in the first ten lanes. -/
def kept : FVec F S512x16 .f32 :=
  k0_pay1 (ms X V 4) (ms X V 5) (ms X V 6) (ms X V 7) (ms X V 8) (ms X V 9) (iota .tc S512x16 32 [1] iota_S512x16_d1_w32)
    (k0_pay34 (ms X V 0) (ms X V 1) (ms X V 2) (ms X V 3)) 4#32
/-- The sum of the ten values taken. -/
def total : FVec F S512x1 .f32 :=
  k0_pay2 (ms X V 0) (ms X V 1) (ms X V 2) (ms X V 3) (ms X V 4) (ms X V 5) (ms X V 6) (ms X V 7) (ms X V 8) (ms X V 9)

theorem pay6_eq (i : grid0.Coords) (v3 v4 v28 : Vec F S512x128 .f32) : k0_pay6 i v3 v4 v28 V = ms (k0_pay5 i v3 v4 v28) V 0 := rfl
theorem pay7_eq (i : grid0.Coords) (v3 v4 v28 : Vec F S512x128 .f32) : k0_pay7 i v3 v4 v28 V = bX (k0_pay6 i v3 v4 v28 V) := rfl

end Cert.KernelIdeal.Top

end
-- ==== Proof.TopTen.lean ====
/-
  The greatest values of a finite set of extended reals, one after the other, above a floor `N`: what ten rounds of
  "take the maximum, then overwrite every copy of it" compute, how two lists of greatest values merge, and what a
  sorted list with ten different heads gives.
-/
module

public import Mathlib.Data.EReal.Basic
public import Mathlib.Data.Finset.Lattice.Fold
public import Mathlib.Data.Finset.Lattice.Lemmas
public import Mathlib.Data.Fintype.Basic
public import Mathlib.Order.Monotone.Basic

@[expose] public section

noncomputable section

namespace Cert.TopTen

/-- The greatest element of `S` below `u`, or the floor when there is none above it. -/
def next (N : EReal) (S : Finset EReal) (u : EReal) : EReal := (S.filter (· < u)).sup id ⊔ N

/-- The `k`-th greatest value of `S` above the floor, counted from `1`; the zeroth is the top. -/
def top (N : EReal) (S : Finset EReal) : ℕ → EReal
  | 0 => ⊤
  | k + 1 => next N S (top N S k)

variable {N : EReal} {S T A B : Finset EReal} {u v a b : EReal}

theorem floor_le_next : N ≤ next N S u := le_sup_right

theorem le_next (ha : a ∈ S) (hu : a < u) : a ≤ next N S u :=
  le_trans (Finset.le_sup (f := id) (Finset.mem_filter.mpr ⟨ha, hu⟩)) le_sup_left

theorem next_le (h : ∀ a ∈ S, a < u → a ≤ b) (hN : N ≤ b) : next N S u ≤ b :=
  sup_le (Finset.sup_le fun a ha => h a (Finset.mem_filter.mp ha).1 (Finset.mem_filter.mp ha).2) hN

theorem next_floor_or : next N S u = N ∨ (next N S u ∈ S ∧ next N S u < u) := by
  unfold next
  rcases (S.filter (· < u)).eq_empty_or_nonempty with h | h
  · left; rw [h]; simp
  · obtain ⟨x, hx, he⟩ := Finset.exists_mem_eq_sup _ h id
    rw [he]
    rcases le_total (id x) N with hl | hl
    · left; exact sup_eq_right.mpr hl
    · right; rw [sup_eq_left.mpr hl]; exact Finset.mem_filter.mp hx

theorem next_mono (h : S ⊆ T) (huv : u ≤ v) : next N S u ≤ next N T v :=
  next_le (fun _ ha hau => le_next (h ha) (lt_of_lt_of_le hau huv)) floor_le_next

theorem floor_le_top (k : ℕ) : N ≤ top N S k := by
  cases k with
  | zero => exact le_top
  | succ k => exact floor_le_next

theorem top_succ_le (k : ℕ) : top N S (k + 1) ≤ top N S k :=
  next_le (fun _ _ h => h.le) (floor_le_top k)

theorem top_mono (h : S ⊆ T) (k : ℕ) : top N S k ≤ top N T k := by
  induction k with
  | zero => exact le_rfl
  | succ k ih => exact next_mono h ih

theorem top_floor_or (k : ℕ) : top N S (k + 1) = N ∨ (top N S (k + 1) ∈ S ∧ top N S (k + 1) < top N S k) :=
  next_floor_or

/-! ## Rounds of maximum and mask -/

/-- A family after `k` rounds: what has been taken is at the floor. -/
def left (N : EReal) {ι : Type} (y : ι → EReal) (u : EReal) (i : ι) : EReal := if y i < u then y i else N

/-- One round's mask: the entries equal to the maximum go to the floor. -/
def mask (N : EReal) {ι : Type} (m : EReal) (z : ι → EReal) (i : ι) : EReal := if z i = m then N else z i

theorem left_top {ι : Type} (y : ι → EReal) (h : ∀ i, y i < ⊤) : left N y ⊤ = y :=
  funext fun i => if_pos (h i)

section rounds
variable {ι κ : Type} [Fintype ι] [Fintype κ] [Nonempty ι] (y : ι → EReal) (z : κ → EReal)

/-- The maximum of the two families after the values from `u` up were taken is the next value of their union. -/
theorem sup_left (hy : ∀ i, N ≤ y i) (hz : ∀ i, N ≤ z i)
    (hS : ∀ a, a ∈ S ↔ (∃ i, y i = a) ∨ ∃ i, z i = a) (hu : N ≤ u) :
    Finset.univ.sup (left N y u) ⊔ Finset.univ.sup (left N z u) = next N S u := by
  apply le_antisymm
  · apply sup_le
    · refine Finset.sup_le fun i _ => ?_
      unfold left; split
      · next h => exact le_next ((hS _).mpr (.inl ⟨i, rfl⟩)) h
      · exact floor_le_next
    · refine Finset.sup_le fun i _ => ?_
      unfold left; split
      · next h => exact le_next ((hS _).mpr (.inr ⟨i, rfl⟩)) h
      · exact floor_le_next
  · apply next_le
    · intro a ha hau
      rcases (hS a).mp ha with ⟨i, rfl⟩ | ⟨i, rfl⟩
      · refine le_trans ?_ (le_trans (Finset.le_sup (f := left N y u) (Finset.mem_univ i)) le_sup_left)
        unfold left; rw [if_pos hau]
      · refine le_trans ?_ (le_trans (Finset.le_sup (f := left N z u) (Finset.mem_univ i)) le_sup_right)
        unfold left; rw [if_pos hau]
    · obtain ⟨i⟩ := ‹Nonempty ι›
      refine le_trans ?_ (le_trans (Finset.le_sup (f := left N y u) (Finset.mem_univ i)) le_sup_left)
      unfold left; split
      · exact hy i
      · exact le_rfl

omit [Fintype ι] [Nonempty ι] in
/-- Masking the next value takes a family one round on. -/
theorem mask_left {m : EReal} (h : ∀ i, y i < u → y i ≤ m) (hm : m ≤ u) : mask N m (left N y u) = left N y m := by
  funext i
  unfold mask left
  by_cases h1 : y i < u
  · rw [if_pos h1]
    by_cases h2 : y i = m
    · rw [if_pos h2, if_neg (by rw [h2]; exact lt_irrefl m)]
    · rw [if_neg h2, if_pos (lt_of_le_of_ne (h i h1) h2)]
  · rw [if_neg h1, if_neg (fun h2 => h1 (lt_of_lt_of_le h2 hm)), ite_self]

end rounds

/-! ## Merging -/

/-- The ten greatest of `A ∪ B` are the ten greatest of `B` and the ten greatest of `A`. -/
theorem top_merge {n : ℕ} (hT : ∀ a ∈ T, a = N ∨ a ∈ A) (hA : ∀ k < n, top N A (k + 1) ∈ T)
    {U W : Finset EReal} (hU : ∀ a, a ∈ U ↔ a ∈ A ∨ a ∈ B) (hW : ∀ a, a ∈ W ↔ a ∈ B ∨ a ∈ T) :
    ∀ k ≤ n, top N W k = top N U k := by
  intro k
  induction k with
  | zero => intro _; rfl
  | succ k ih =>
    intro hk
    have e := ih (by omega)
    show next N W (top N W k) = next N U (top N U k)
    rw [e]
    apply le_antisymm
    · refine next_le (fun a ha hau => ?_) floor_le_next
      rcases (hW a).mp ha with hb | ht
      · exact le_next ((hU a).mpr (.inr hb)) hau
      · rcases hT a ht with rfl | h
        · exact floor_le_next
        · exact le_next ((hU a).mpr (.inl h)) hau
    · refine next_le (fun a ha hau => ?_) floor_le_next
      rcases (hU a).mp ha with h | hb
      swap
      · exact le_next ((hW a).mpr (.inl hb)) hau
      by_cases hin : a ∈ T
      · exact le_next ((hW a).mpr (.inr hin)) hau
      have hlt : ∀ j ≤ n, a < top N A j := by
        intro j
        induction j with
        | zero => intro _; exact lt_of_lt_of_le hau le_top
        | succ j ihj =>
          intro hj
          refine lt_of_le_of_ne (le_next h (ihj (by omega))) ?_
          intro hc
          exact hin (by rw [hc]; exact hA j (by omega))
      rcases le_or_gt a N with hN | hN
      · exact le_trans hN floor_le_next
      have h1 : a < top N A (k + 1) := hlt (k + 1) hk
      have h2 : top N A (k + 1) < top N U k := by
        rcases top_floor_or (N := N) (S := A) k with h3 | h3
        · rw [h3] at h1; exact absurd h1 (not_lt.mpr hN.le)
        · exact lt_of_lt_of_le h3.2 (top_mono (fun x hx => (hU x).mpr (.inl hx)) k)
      exact le_trans h1.le (le_next ((hW _).mpr (.inr (hA k (by omega)))) h2)

/-! ## A sorted list -/

/-- A sorted list whose first `n` entries are strictly decreasing and above the floor starts with the greatest values. -/
theorem top_sorted {n : ℕ} (g : ℕ → EReal) (hS : ∀ a ∈ S, ∃ j, a = g j) (hm : ∀ k < n, g k ∈ S) (hanti : Antitone g)
    (hst : ∀ k, k + 1 < n → g (k + 1) < g k) (h0 : g 0 < ⊤) (hN : ∀ k < n, N ≤ g k) :
    ∀ k < n, top N S (k + 1) = g k := by
  have key : ∀ (k : ℕ) (u : EReal), k < n → g k < u → (∀ j < k, u ≤ g j) → next N S u = g k := by
    intro k u hk hgu hj
    apply le_antisymm
    · refine next_le (fun a ha hau => ?_) (hN k hk)
      obtain ⟨j, rfl⟩ := hS a ha
      rcases lt_or_ge j k with hlt | hge
      · exact absurd hau (not_lt.mpr (hj j hlt))
      · exact hanti hge
    · exact le_next (hm k hk) hgu
  intro k
  induction k with
  | zero => intro hk; exact key 0 ⊤ hk h0 (fun j hj => absurd hj (Nat.not_lt_zero _))
  | succ k ih =>
    intro hk
    show next N S (top N S (k + 1)) = _
    rw [ih (by omega)]
    exact key (k + 1) _ hk (hst k hk) (fun j hj => hanti (by omega))

end Cert.TopTen

end
-- ==== Proof.Normalise.lean ====
/-
  Rows over the extended reals divided by their length, the length taken no smaller than a floor: every entry is a real
  number between -1 and 1, whatever the row holds, and a row at least as long as the floor is normalised by one division.
-/
module

public import Idealize.ShloMosaic.PureOps.Ideal
public import Idealize.ShloMosaic.Lib.IdealHost

@[expose] public section

noncomputable section

namespace Cert.Norm

open Idealize.ShloMosaic
open scoped BigOperators

/-- The floor of a row's length, the f32 number nearest 1e-12. -/
abbrev eps : EReal := Ideal.ofBits .f32 0x2B8CBCCC#32
/-- The value that stands for "nothing here", the f32 number nearest -1e30. -/
abbrev neg : EReal := Ideal.ofBits .f32 0xF149F2CA#32

theorem eps_eq : eps = ((9223372 * (2 : ℝ) ^ (-63 : ℤ) : ℝ) : EReal) := by
  simp [Ideal.ofBits, Ideal.ieee, -EReal.coe_mul]
  try norm_num

theorem eps_real : ∃ e : ℝ, eps = (e : EReal) ∧ 0 < e ∧ e ≤ 1 := ⟨_, eps_eq, by positivity, by norm_num⟩

theorem neg_lt : neg < ((-128 : ℝ) : EReal) := by
  simp [neg, Ideal.ofBits, Ideal.ieee, -EReal.coe_mul]
  norm_num

variable {n : ℕ}

/-- A row's length. -/
def len (x : Fin n → EReal) : EReal := Ideal.sqrt (∑ k, x k * x k)
/-- A row divided by its length. -/
def nrm (x : Fin n → EReal) (i : Fin n) : EReal := Ideal.div (x i) (max (len x) eps)

theorem mul_self_nonneg' (x : EReal) : 0 ≤ x * x := by
  induction x with
  | bot => simp
  | top => simp
  | coe r => rw [← EReal.coe_mul]; exact_mod_cast mul_self_nonneg r

theorem real_of_sq {x : EReal} (h : x * x ≠ ⊤) : ∃ r : ℝ, x = (r : EReal) := by
  induction x with
  | bot => simp at h
  | top => simp at h
  | coe r => exact ⟨r, rfl⟩

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A row is either one whose squares add up to infinity or a row of real numbers. -/
theorem sq_cases (x : Fin n → EReal) :
    (∑ k, x k * x k = ⊤) ∨ ∃ r : Fin n → ℝ, x = (fun k => (r k : EReal)) ∧ ∑ k, x k * x k = ((∑ k, r k * r k : ℝ) : EReal) := by
  by_cases h : ∑ k, x k * x k = ⊤
  · exact .inl h
  · right
    have hx : ∀ k, ∃ r : ℝ, x k = (r : EReal) := fun k => real_of_sq fun hk => h <| by
      apply top_le_iff.mp
      rw [← hk]
      exact Finset.single_le_sum (f := fun k => x k * x k) (fun i _ => mul_self_nonneg' (x i)) (Finset.mem_univ k)
    choose r hr using hx
    refine ⟨r, funext hr, ?_⟩
    rw [coe_sum]
    exact Finset.sum_congr rfl fun k _ => by rw [hr k, EReal.coe_mul]

theorem sumsq_nonneg (r : Fin n → ℝ) : 0 ≤ ∑ k, r k * r k := Finset.sum_nonneg fun k _ => mul_self_nonneg (r k)

theorem len_top {x : Fin n → EReal} (h : ∑ k, x k * x k = ⊤) : len x = ⊤ := by rw [len, h]; rfl

theorem len_coe (r : Fin n → ℝ) : len (fun k => (r k : EReal)) = (Real.sqrt (∑ k, r k * r k) : EReal) := by
  have e : ∑ k, (r k : EReal) * (r k : EReal) = ((∑ k, r k * r k : ℝ) : EReal) := by
    rw [coe_sum]; exact Finset.sum_congr rfl fun k _ => by rw [EReal.coe_mul]
  rw [len, e, Ideal.sqrt_coe, if_neg (not_lt.mpr (sumsq_nonneg r))]

theorem nrm_of_top {x : Fin n → EReal} (h : ∑ k, x k * x k = ⊤) : nrm x = fun _ => 0 := by
  funext i
  rw [nrm, len_top h, max_eq_left le_top, Ideal.div, if_neg (by simp), EReal.inv_top, mul_zero]

theorem coe_max (a b : ℝ) : max (a : EReal) (b : EReal) = ((max a b : ℝ) : EReal) :=
  (EReal.coe_strictMono.monotone.map_max).symm

theorem nrm_coe {e : ℝ} (he : eps = (e : EReal)) (hpos : 0 < e) (r : Fin n → ℝ) (i : Fin n) :
    nrm (fun k => (r k : EReal)) i = ((r i / max (Real.sqrt (∑ k, r k * r k)) e : ℝ) : EReal) := by
  rw [nrm, len_coe, he, coe_max, Ideal.div_coe (lt_of_lt_of_le hpos (le_max_right _ _)).ne', ← EReal.coe_mul, mul_one_div]

/-- Every entry of a normalised row is a real number of size at most one. -/
theorem nrm_real (x : Fin n → EReal) (i : Fin n) : ∃ r : ℝ, nrm x i = (r : EReal) ∧ |r| ≤ 1 := by
  obtain ⟨e, he, hpos, _⟩ := eps_real
  rcases sq_cases x with h | ⟨r, hr, _⟩
  · exact ⟨0, by rw [nrm_of_top h]; rfl, by simp⟩
  · refine ⟨_, by rw [hr]; exact nrm_coe he hpos r i, ?_⟩
    have hm : 0 < max (Real.sqrt (∑ k, r k * r k)) e := lt_of_lt_of_le hpos (le_max_right _ _)
    rw [abs_div, abs_of_pos hm, div_le_one hm]
    refine le_trans ?_ (le_max_left _ _)
    rw [← Real.sqrt_sq_eq_abs]
    apply Real.sqrt_le_sqrt
    rw [sq]
    exact Finset.single_le_sum (f := fun k => r k * r k) (fun k _ => mul_self_nonneg (r k)) (Finset.mem_univ i)

/-- A row at least as long as the floor, once normalised, is unchanged by normalising it again. -/
theorem nrm_nrm (x : Fin n → EReal) (hx : eps ≤ len x) : nrm (nrm x) = nrm x := by
  obtain ⟨e, he, hpos, h1⟩ := eps_real
  rcases sq_cases x with h | ⟨r, hr, _⟩
  · rw [nrm_of_top h]
    funext i
    have := nrm_coe (n := n) he hpos (fun _ => 0) i
    simpa using this
  · have hl : e ≤ Real.sqrt (∑ k, r k * r k) := by
      rw [hr, len_coe, he] at hx; exact_mod_cast hx
    have hs : nrm x = fun k => ((r k / Real.sqrt (∑ k, r k * r k) : ℝ) : EReal) := by
      funext i; rw [hr, nrm_coe he hpos, max_eq_left hl]
    have hq : 0 < Real.sqrt (∑ k, r k * r k) := lt_of_lt_of_le hpos hl
    have hone : ∑ k, (r k / Real.sqrt (∑ k, r k * r k)) * (r k / Real.sqrt (∑ k, r k * r k)) = 1 := by
      have : ∀ k, (r k / Real.sqrt (∑ k, r k * r k)) * (r k / Real.sqrt (∑ k, r k * r k))
          = (r k * r k) * (1 / (∑ k, r k * r k)) := fun k => by
        rw [div_mul_div_comm, Real.mul_self_sqrt (sumsq_nonneg r), div_eq_mul_one_div]
      rw [Finset.sum_congr rfl fun k _ => this k, ← Finset.sum_mul, mul_one_div_cancel (Real.sqrt_pos.mp hq).ne']
    rw [hs]
    funext i
    rw [nrm_coe he hpos, hone, Real.sqrt_one, max_eq_left h1, div_one]

/-! ## Similarities -/

/-- The product of two rows. -/
def dot (x y : Fin n → EReal) : EReal := ∑ k, x k * y k

theorem dot_real (x y : Fin 128 → EReal) : ∃ r : ℝ, dot (nrm x) (nrm y) = (r : EReal) ∧ |r| ≤ 128 := by
  choose a ha ha1 using nrm_real x
  choose b hb hb1 using nrm_real y
  refine ⟨∑ k, a k * b k, ?_, ?_⟩
  · rw [dot, coe_sum]; exact Finset.sum_congr rfl fun k _ => by rw [ha k, hb k, EReal.coe_mul]
  · refine le_trans (Finset.abs_sum_le_sum_abs _ _) ?_
    calc ∑ k, |a k * b k| ≤ ∑ _k : Fin 128, (1 : ℝ) := Finset.sum_le_sum fun k _ => by
          rw [abs_mul]; exact mul_le_one₀ (ha1 k) (abs_nonneg _) (hb1 k)
      _ = 128 := by simp

theorem neg_le_dot (x y : Fin 128 → EReal) : neg ≤ dot (nrm x) (nrm y) := by
  obtain ⟨r, hr, h⟩ := dot_real x y
  rw [hr]
  exact le_trans neg_lt.le (by exact_mod_cast (abs_le.mp h).1)

theorem dot_lt_top (x y : Fin 128 → EReal) : dot (nrm x) (nrm y) < ⊤ := by
  obtain ⟨r, hr, _⟩ := dot_real x y
  rw [hr]; exact EReal.coe_lt_top r

end Cert.Norm

end
-- ==== Proof.Block.lean ====
/-
  The kernel's blocks over the extended reals, read entry by entry: a normalised row, a similarity, and the ten rounds
  as the ten greatest values of a row.
-/
module

public import proofs.«01_k».proof.Proof.Rounds
public import proofs.«01_k».proof.Proof.TopTen
public import proofs.«01_k».proof.Proof.Normalise
public import Idealize.ShloMosaic.Lib.Pointwise

@[expose] public section

set_option maxRecDepth 16384

noncomputable section

namespace Cert.KernelIdeal.Top

open Idealize.ShloMosaic Cert.KernelIdeal.Gen Cert.Norm Cert.TopTen
open scoped BigOperators

/-- Row `b` of a matrix. -/
abbrev row {p q : ℕ} (x : (⟨2, ![p, q]⟩ : Shape).Idx → EReal) (b : Fin p) : Fin q → EReal := fun k => x (ix2 b k)

/-- A bank row moved towards a normalised feature row. -/
def moved (old new : Fin 128 → EReal) (k : Fin 128) : EReal :=
  Ideal.ofBits .f32 0x3F7EB852#32 * old k + Ideal.ofBits .f32 0x3BA3D70A#32 * new k

theorem pay3_apply (x : FVec Ideal S512x128 .f32) (b : Fin 512) (k : Fin 128) :
    k0_pay3 (F := Ideal) x (ix2 b k) = nrm (row x b) k := by
  unfold nrm len
  pointwise [k0_pay3]

theorem pay4_apply (b : Fin 512) (l : Fin 16) : k0_pay4 (F := Ideal) (ix2 b l) = neg := by
  pointwise [k0_pay4]

theorem neg_inf : Ideal.ofBits .f32 0xFF800000#32 = ⊥ := by simp [Ideal.ofBits, Ideal.ieee]

theorem fold_max_sup {n : ℕ} (f : Fin n → EReal) : Finset.univ.fold max ⊥ f = Finset.univ.sup f := rfl

theorem mx_apply (X : FVec Ideal S512x512 .f32) (V : FVec Ideal S512x16 .f32) (b : Fin 512) :
    mx X V (ix2 b 0) = Finset.univ.sup (row X b) ⊔ Finset.univ.sup (row V b) := by
  rw [← fold_max_sup, ← fold_max_sup]
  pointwise [mx]
  rw [neg_inf]

theorem mkX_apply (X : FVec Ideal S512x512 .f32) (M : FVec Ideal S512x1 .f32) (b : Fin 512) (j : Fin 512) :
    mkX X M (ix2 b j) = mask neg (M (ix2 b 0)) (row X b) j := by
  unfold mask
  pointwise [mkX, bX]

theorem mkV_apply (V : FVec Ideal S512x16 .f32) (M : FVec Ideal S512x1 .f32) (b : Fin 512) (j : Fin 16) :
    mkV V M (ix2 b j) = mask neg (M (ix2 b 0)) (row V b) j := by
  unfold mask
  pointwise [mkV]

theorem word_lt (i : grid0.Coords) :
    Scalar.cmpi CmpIPredicate.slt (BitVec.ofNat 32 (i 1).val) 8#32 = if (i 1).val < 8 then 1#1 else 0#1 := by
  have key : ∀ n < 32, Scalar.cmpi CmpIPredicate.slt (BitVec.ofNat 32 n) 8#32 = if n < 8 then 1#1 else 0#1 := by decide +kernel
  exact key _ (i 1).isLt

theorem pay5_apply (i : grid0.Coords) (v3 v4 v28 : FVec Ideal S512x128 .f32) (b j : Fin 512) :
    k0_pay5 (F := Ideal) i v3 v4 v28 (ix2 b j)
      = dot (row v28 b) (nrm (if (i 1).val < 8 then moved (row v3 j) (nrm (row v4 j)) else row v3 j)) := by
  unfold nrm len dot
  pointwise [k0_pay5]
  rw [word_lt i]
  by_cases h : (i 1).val < 8
  · simp only [if_pos h]; rfl
  · simp only [if_neg h]; rfl

/-! ## The ten rounds of a row -/

section rounds
variable {X : FVec Ideal S512x512 .f32} {V : FVec Ideal S512x16 .f32} {b : Fin 512} {S : Finset EReal}

theorem rd_row (hX : ∀ j, neg ≤ row X b j) (hX' : ∀ j, row X b j < ⊤) (hV : ∀ l, neg ≤ row V b l) (hV' : ∀ l, row V b l < ⊤)
    (hS : ∀ a, a ∈ S ↔ (∃ j, row X b j = a) ∨ ∃ l, row V b l = a) (k : ℕ) :
    row (rd X V k).1 b = left neg (row X b) (top neg S k) ∧ row (rd X V k).2 b = left neg (row V b) (top neg S k)
      ∧ ms X V k (ix2 b 0) = top neg S (k + 1) := by
  have hms : ∀ k, row (rd X V k).1 b = left neg (row X b) (top neg S k) →
      row (rd X V k).2 b = left neg (row V b) (top neg S k) → ms X V k (ix2 b 0) = top neg S (k + 1) := by
    intro k h1 h2
    rw [ms, mx_apply, h1, h2]
    exact sup_left _ _ hX hV hS (floor_le_top k)
  induction k with
  | zero =>
    have h1 : row (rd X V 0).1 b = left neg (row X b) (top neg S 0) := (left_top _ hX').symm
    have h2 : row (rd X V 0).2 b = left neg (row V b) (top neg S 0) := (left_top _ hV').symm
    exact ⟨h1, h2, hms 0 h1 h2⟩
  | succ k ih =>
    obtain ⟨h1, h2, h3⟩ := ih
    have e1 : row (rd X V (k + 1)).1 b = left neg (row X b) (top neg S (k + 1)) := by
      funext j
      show mkX (rd X V k).1 (ms X V k) (ix2 b j) = _
      rw [mkX_apply, h1, h3]
      exact congrFun (mask_left _ (fun j hj => le_next ((hS _).mpr (.inl ⟨j, rfl⟩)) hj) (top_succ_le k)) j
    have e2 : row (rd X V (k + 1)).2 b = left neg (row V b) (top neg S (k + 1)) := by
      funext j
      show mkV (rd X V k).2 (ms X V k) (ix2 b j) = _
      rw [mkV_apply, h2, h3]
      exact congrFun (mask_left _ (fun j hj => le_next ((hS _).mpr (.inr ⟨j, rfl⟩)) hj) (top_succ_le k)) j
    exact ⟨e1, e2, hms (k + 1) e1 e2⟩

end rounds

/-- Ten row values written into the first ten lanes. -/
theorem lanes_apply (M : ℕ → FVec Ideal S512x1 .f32) (b : Fin 512) (l : Fin 16) :
    k0_pay1 (F := Ideal) (M 4) (M 5) (M 6) (M 7) (M 8) (M 9) (iota .tc S512x16 32 [1] iota_S512x16_d1_w32)
      (k0_pay34 (F := Ideal) (M 0) (M 1) (M 2) (M 3)) 4#32 (ix2 b l) = if l.val < 10 then M l.val (ix2 b 0) else neg := by
  pointwise [k0_pay1, k0_pay34]
  fin_cases l <;> rfl

theorem kept_apply (X : FVec Ideal S512x512 .f32) (V : FVec Ideal S512x16 .f32) (b : Fin 512) (l : Fin 16) :
    kept X V (ix2 b l) = if l.val < 10 then ms X V l.val (ix2 b 0) else neg := lanes_apply (ms X V) b l

/-- The sum of ten row values. -/
theorem sum_apply (M : ℕ → FVec Ideal S512x1 .f32) (b : Fin 512) :
    k0_pay2 (F := Ideal) (M 0) (M 1) (M 2) (M 3) (M 4) (M 5) (M 6) (M 7) (M 8) (M 9) (ix2 b 0) = ∑ k : Fin 10, M k.val (ix2 b 0) := by
  pointwise [k0_pay2]
  simp only [Fin.sum_univ_succ, Fin.sum_univ_zero, add_zero, add_assoc]
  rfl

theorem total_apply (X : FVec Ideal S512x512 .f32) (V : FVec Ideal S512x16 .f32) (b : Fin 512) :
    total X V (ix2 b 0) = ∑ k : Fin 10, ms X V k.val (ix2 b 0) := sum_apply (ms X V) b

end Cert.KernelIdeal.Top

end
-- ==== Proof.Spec.lean ====
/-
  The similarities of the feature rows with the updated bank, the ten greatest of those a row has met so far, and how a
  block of 512 more bank rows takes the kept values on.
-/
module

public import proofs.«01_k».proof.Proof.Block

@[expose] public section

set_option maxRecDepth 16384

noncomputable section

namespace Cert.KernelIdeal.Top

open Idealize.ShloMosaic Cert.KernelIdeal.Gen Cert.Norm Cert.TopTen
open scoped BigOperators

/-- The features, and the bank before its update. -/
abbrev Feat := (⟨2, ![4096, 128]⟩ : Shape).Idx → EReal
abbrev Bank := (⟨2, ![16384, 128]⟩ : Shape).Idx → EReal

/-- A row of the updated bank: the first 4096 rows move towards the feature row of their number. -/
def bankRow (f : Feat) (g : Bank) (j : Fin 16384) : Fin 128 → EReal :=
  if h : j.val < 4096 then moved (row g j) (nrm (row f ⟨j.val, h⟩)) else row g j
/-- The similarity of feature row `b` with bank row `j`. -/
def sim (f : Feat) (g : Bank) (b : Fin 4096) (j : Fin 16384) : EReal := dot (nrm (row f b)) (nrm (bankRow f g j))
/-- The similarities of feature row `b` with the first `n` bank rows. -/
def seen (f : Feat) (g : Bank) (b : Fin 4096) (n : ℕ) : Finset EReal :=
  (Finset.univ.filter fun j : Fin 16384 => j.val < n).image (sim f g b)

variable {f : Feat} {g : Bank} {B : Fin 4096} {n : ℕ}

theorem mem_seen {a : EReal} : a ∈ seen f g B n ↔ ∃ j : Fin 16384, j.val < n ∧ sim f g B j = a := by
  simp [seen]

theorem seen_zero : seen f g B 0 = ∅ := by simp [seen]

theorem top_empty (k : ℕ) : top neg ∅ (k + 1) = neg := by
  rcases top_floor_or (N := neg) (S := ∅) k with h | h
  · exact h
  · simp at h

theorem neg_lt_top : neg < ⊤ := lt_of_lt_of_le neg_lt le_top

theorem top_lt_top (k : ℕ) : top neg (seen f g B n) (k + 1) < ⊤ := by
  rcases top_floor_or (N := neg) (S := seen f g B n) k with h | h
  · rw [h]; exact neg_lt_top
  · exact lt_of_lt_of_le h.2 le_top

/-- One block's ten values: the ten greatest similarities met so far, that block included. -/
theorem block_ms {X : FVec Ideal S512x512 .f32} {V : FVec Ideal S512x16 .f32} {b : Fin 512} (hn : n + 512 ≤ 16384)
    (hX : ∀ j : Fin 512, X (ix2 b j) = sim f g B ⟨n + j.val, by omega⟩)
    (hV : ∀ l : Fin 16, V (ix2 b l) = if l.val < 10 then top neg (seen f g B n) (l.val + 1) else neg) (k : ℕ) (hk : k < 10) :
    ms X V k (ix2 b 0) = top neg (seen f g B (n + 512)) (k + 1) := by
  classical
  have hVle : ∀ l, neg ≤ row V b l := fun l => by
    show neg ≤ V (ix2 b l); rw [hV]; split
    · exact floor_le_top _
    · exact le_rfl
  have hVlt : ∀ l, row V b l < ⊤ := fun l => by
    show V (ix2 b l) < ⊤; rw [hV]; split
    · exact top_lt_top _
    · exact neg_lt_top
  have hXle : ∀ j, neg ≤ row X b j := fun j => by
    show neg ≤ X (ix2 b j); rw [hX]; exact neg_le_dot _ _
  have hXlt : ∀ j, row X b j < ⊤ := fun j => by
    show X (ix2 b j) < ⊤; rw [hX]; exact dot_lt_top _ _
  let P : Finset EReal := Finset.univ.image (row X b)
  let T : Finset EReal := Finset.univ.image (row V b)
  have hP : ∀ a, a ∈ P ↔ ∃ j, row X b j = a := fun a => by simp [P]
  have hT : ∀ a, a ∈ T ↔ ∃ l, row V b l = a := fun a => by simp [T]
  have h1 := (rd_row (X := X) (V := V) (b := b) (S := P ∪ T) hXle hXlt hVle hVlt
    (fun a => by rw [Finset.mem_union, hP, hT]) k).2.2
  rw [h1]
  refine top_merge (n := 10) (A := seen f g B n) (B := P) (T := T) ?_ ?_ ?_ (fun a => Finset.mem_union) (k + 1) (by omega)
  · intro a ha
    obtain ⟨l, hl⟩ := (hT a).mp ha
    have hl' : V (ix2 b l) = a := hl
    rw [hV] at hl'
    split at hl'
    · rcases top_floor_or (N := neg) (S := seen f g B n) l.val with h | h
      · left; rw [← hl', h]
      · right; rw [← hl']; exact h.1
    · left; exact hl'.symm
  · intro k hk
    refine (hT _).mpr ⟨⟨k, by omega⟩, ?_⟩
    show V (ix2 b _) = _
    rw [hV, if_pos hk]
  · intro a
    rw [mem_seen, mem_seen, hP]
    constructor
    · rintro ⟨j, hj, rfl⟩
      rcases lt_or_ge j.val n with h | h
      · exact .inl ⟨j, h, rfl⟩
      · refine .inr ⟨⟨j.val - n, by omega⟩, ?_⟩
        show X (ix2 b _) = _
        rw [hX]; exact congrArg (sim f g B) (Fin.ext (Nat.add_sub_cancel' h))
    · rintro (⟨j, hj, rfl⟩ | ⟨j, rfl⟩)
      · exact ⟨j, by omega, rfl⟩
      · exact ⟨⟨n + j.val, by omega⟩, Nat.add_lt_add_left j.isLt n, (hX j).symm⟩

/-- The similarities the kernel computes at a block of bank rows. -/
theorem pay5_sim (i : grid0.Coords) (x1 x2 v : FVec Ideal S512x128 .f32) (b j : Fin 512) (J : Fin 16384)
    (hJ : J.val = 512 * (i 1).val + j.val) (hv : row v b = nrm (row f B)) (h2 : row x2 j = row g J)
    (h1 : ∀ h : J.val < 4096, row x1 j = row f ⟨J.val, h⟩) :
    k0_pay5 (F := Ideal) i x2 x1 v (ix2 b j) = sim f g B J := by
  rw [pay5_apply, sim, bankRow, hv, h2]
  by_cases h : (i 1).val < 8
  · have h4 : J.val < 4096 := by have := j.isLt; omega
    rw [if_pos h, dif_pos h4, h1 h4]
  · have h4 : ¬J.val < 4096 := by omega
    rw [if_neg h, dif_neg h4]

end Cert.KernelIdeal.Top

end
-- ==== Proof.Cases.lean ====
/-
  What each case of the kernel's body leaves in the buffers it writes, read back from the run: the normalised feature
  rows, the kept values and, at a row block's last point, the sum of the ten values.
-/
module

public import proofs.«01_k».proof.Proof.Block
public import proofs.«01_k».proof.Proof.Gen.KernelIdeal.Frame
public import Idealize.ShloMosaic.Lib.Pipeline.Value
public import Idealize.ShloMosaic.Lib.StableHlo.Run
public import Idealize.ShloMosaic.Lib.Tactic

@[expose] public section

set_option maxRecDepth 16384

noncomputable section

namespace Cert.KernelIdeal.Top

open Idealize.ShloMosaic Idealize.ShloMosaic.TcCoe Idealize.SL.Sem Cert.KernelIdeal.Gen
open Idealize.ShloMosaic.Pipeline (Dat)

variable {F : FTy → Type} [FloatOps F]

theorem hz : (![0, 0] : Fin 2 → Nat) = fun _ => 0 := funext fun a => by fin_cases a <;> rfl

theorem left_A_0 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S512x128 .f32) (harg6 : arg6.IsWhole) (arg7 : Memref sig .tc .vmem S512x16 .f32) (harg7 : arg7.IsWhole) (hc0 : cond0_0 i) (hc1 : ¬cond0_1 i)
    (x0 x1 x2 : FVec F S512x128 .f32) :
    sout0_A_0 c i arg2 harg2 arg3 harg3 arg4 harg4 arg5 harg5 arg6 harg6 arg7 harg7 hc0 hc1 x0 x1 x2 = k0_pay3 x0 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_unit_zero hz]
  simp only [View.readAt_eq_ld, harg2.read_unread, harg3.read_unread, harg4.read_unread, harg6.read_unread, harg7.read_unread, View.ld_unit_zero (S := S512x128) hz, View.ld_unit_zero (S := S512x16) hz]

theorem left_A_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S512x128 .f32) (harg6 : arg6.IsWhole) (arg7 : Memref sig .tc .vmem S512x16 .f32) (harg7 : arg7.IsWhole) (hc0 : cond0_0 i) (hc1 : ¬cond0_1 i)
    (x0 x1 x2 : FVec F S512x128 .f32) :
    sout0_A_1 c i arg2 harg2 arg3 harg3 arg4 harg4 arg5 harg5 arg6 harg6 arg7 harg7 hc0 hc1 x0 x1 x2 = kept (k0_pay5 i x2 x1 (k0_pay3 x0)) k0_pay4 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S512x16) hz]
  simp only [View.readCov_unit_zero (S := S512x128) _ hz, View.readCov_unit_zero (S := S512x16) _ hz]
  simp only [View.readAt_eq_ld, harg2.read_unread, harg3.read_unread, harg4.read_unread, harg6.read_unread, harg7.read_unread, View.ld_unit_zero (S := S512x128) hz, View.ld_unit_zero (S := S512x16) hz]
  simp only [pay7_eq, pay6_eq, r10, r11, r12, r13, r14, r15, r16, r17, r18, t19, t22, t25, t26, t27, t28, t29, t32, t33]
  rfl

theorem left_B_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S512x128 .f32) (harg6 : arg6.IsWhole) (arg7 : Memref sig .tc .vmem S512x16 .f32) (harg7 : arg7.IsWhole) (hc0 : ¬cond0_0 i) (hc1 : ¬cond0_1 i)
    (x0 x1 x2 : FVec F S512x128 .f32) (xs0 : FVec F S512x128 .f32) (xs1 : FVec F S512x16 .f32) :
    sout0_B_1 c i arg2 harg2 arg3 harg3 arg4 harg4 arg5 harg5 arg6 harg6 arg7 harg7 hc0 hc1 x0 x1 x2 xs0 xs1 = kept (k0_pay5 i x2 x1 xs0) xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz]
  simp only [View.readAt_eq_ld, harg2.read_unread, harg3.read_unread, harg4.read_unread, harg6.read_unread, harg7.read_unread, View.ld_unit_zero (S := S512x128) hz, View.ld_unit_zero (S := S512x16) hz]
  simp only [pay7_eq, pay6_eq, r10, r11, r12, r13, r14, r15, r16, r17, r18, t19, t22, t25, t26, t27, t28, t29, t32, t33]
  rfl

theorem left_C_1 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S512x128 .f32) (harg6 : arg6.IsWhole) (arg7 : Memref sig .tc .vmem S512x16 .f32) (harg7 : arg7.IsWhole) (hc0 : ¬cond0_0 i) (hc1 : cond0_1 i)
    (x0 x1 x2 : FVec F S512x128 .f32) (xs0 : FVec F S512x128 .f32) (xs1 : FVec F S512x16 .f32) :
    sout0_C_1 c i arg2 harg2 arg3 harg3 arg4 harg4 arg5 harg5 arg6 harg6 arg7 harg7 hc0 hc1 x0 x1 x2 xs0 xs1 = kept (k0_pay5 i x2 x1 xs0) xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread, View.ld_unit_zero (S := S512x128) hz, View.ld_unit_zero (S := S512x16) hz]
  simp only [pay7_eq, pay6_eq, r10, r11, r12, r13, r14, r15, r16, r17, r18, t19, t22, t25, t26, t27, t28, t29, t32, t33]
  rfl

theorem left_C_3 (c : Dev nD) (i : grid0.Coords) (arg2 : Memref sig .tc .vmem S512x128 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1 .f32) (harg5 : arg5.IsWhole) (arg6 : Memref sig .tc .vmem S512x128 .f32) (harg6 : arg6.IsWhole) (arg7 : Memref sig .tc .vmem S512x16 .f32) (harg7 : arg7.IsWhole) (hc0 : ¬cond0_0 i) (hc1 : cond0_1 i)
    (x0 x1 x2 : FVec F S512x128 .f32) (xs0 : FVec F S512x128 .f32) (xs1 : FVec F S512x16 .f32) :
    out0_C_3 c i arg2 harg2 arg3 harg3 arg4 harg4 arg5 harg5 arg6 harg6 arg7 harg7 hc0 hc1 x0 x1 x2 xs0 xs1 = total (k0_pay5 i x2 x1 xs0) xs1 := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz]
  simp only [View.readAt_eq_ld, harg2.read_unread, harg3.read_unread, harg4.read_unread, harg6.read_unread, harg7.read_unread, View.ld_unit_zero (S := S512x128) hz, View.ld_unit_zero (S := S512x16) hz]
  simp only [pay7_eq, pay6_eq, r10, r11, r12, r13, r14, r15, r16, r17, r18, t19, t22, t25, t26, t27, t28, t29, t32, t33]
  rfl

end Cert.KernelIdeal.Top

end
-- ==== Proof.Points.lean ====
/-
  The blocks the kernel reads at each grid point, and what it keeps point by point: the normalised feature rows of its
  row block, and each row's ten greatest similarities with the bank rows met so far.
-/
module

public import proofs.«01_k».proof.Proof.Spec
public import proofs.«01_k».proof.Proof.Cases

@[expose] public section

set_option maxRecDepth 16384

noncomputable section

namespace Cert.KernelIdeal.Top

open Idealize.ShloMosaic Idealize.ShloMosaic.TcCoe Idealize.SL.Sem Cert.KernelIdeal.Gen Cert.Norm Cert.TopTen
open Idealize.ShloMosaic.Pipeline (Dat)
open scoped BigOperators

variable (m : (ℓ : Loc nD τ sig) → Buf (Elt Ideal) ℓ) (c : Dev nD)

/-- The features and the bank at launch. -/
abbrev feat : Feat := m ((c.tc : Thread nD τ).loc main_arg0)
abbrev bank : Bank := m ((c.tc : Thread nD τ).loc main_arg1)

/-- The feature row at row `b` of the block of point `t`. -/
def rowOf (t : Fin cfg0.N) (b : Fin 512) : Fin 4096 :=
  ⟨512 * (t.val / 32) + b.val, by have := t.isLt; have h : cfg0.N = 256 := N_0; have := b.isLt; omega⟩

theorem index_0 : ∀ t : Fin cfg0.N, win0_0.index t 0 = t.val / 32 ∧ win0_0.index t 1 = 0 := by decide +kernel
theorem index_1 : ∀ t : Fin cfg0.N, win0_1.index t 0 = min (t.val % 32) 7 ∧ win0_1.index t 1 = 0 := by decide +kernel
theorem index_2 : ∀ t : Fin cfg0.N, win0_2.index t 0 = t.val % 32 ∧ win0_2.index t 1 = 0 := by decide +kernel
theorem index_3 : ∀ t : Fin cfg0.N, win0_3.index t 0 = t.val / 32 ∧ win0_3.index t 1 = 0 := by decide +kernel
theorem coord_1 : ∀ t : Fin cfg0.N, ((grid0.coords t) 1).val = t.val % 32 := by decide +kernel

theorem iblk_0 (t : Fin cfg0.N) (b : Fin 512) : row (iblk m c 0 t) b = row (feat m c) (rowOf t b) := by
  funext k
  show iblk m c 0 t (ix2 b k) = feat m c (ix2 (rowOf t b) k)
  unfold iblk
  rw [View.read_apply]
  show V m c main_arg0 _ = m (c.tc.loc main_arg0) _
  unfold V
  congr 1
  funext a
  apply Fin.ext
  match a with
  | ⟨0, _⟩ => show win0_0.index t 0 * 512 + 1 * b.val = 512 * (t.val / 32) + b.val; rw [(index_0 t).1]; omega
  | ⟨1, _⟩ => show win0_0.index t 1 * 128 + 1 * k.val = k.val; rw [(index_0 t).2]; omega

theorem iblk_1 (t : Fin cfg0.N) (b : Fin 512) (J : Fin 4096) (hJ : J.val = 512 * (t.val % 32) + b.val) :
    row (iblk m c 1 t) b = row (feat m c) J := by
  funext k
  show iblk m c 1 t (ix2 b k) = feat m c (ix2 J k)
  unfold iblk
  rw [View.read_apply]
  show V m c main_arg0 _ = m (c.tc.loc main_arg0) _
  unfold V
  congr 1
  funext a
  apply Fin.ext
  match a with
  | ⟨0, _⟩ => show win0_1.index t 0 * 512 + 1 * b.val = J.val; rw [(index_1 t).1]; have := J.isLt; have := b.isLt; omega
  | ⟨1, _⟩ => show win0_1.index t 1 * 128 + 1 * k.val = k.val; rw [(index_1 t).2]; omega

theorem iblk_2 (t : Fin cfg0.N) (b : Fin 512) (J : Fin 16384) (hJ : J.val = 512 * (t.val % 32) + b.val) :
    row (iblk m c 2 t) b = row (bank m c) J := by
  funext k
  show iblk m c 2 t (ix2 b k) = bank m c (ix2 J k)
  unfold iblk
  rw [View.read_apply]
  show V m c main_arg1 _ = m (c.tc.loc main_arg1) _
  unfold V
  congr 1
  funext a
  apply Fin.ext
  match a with
  | ⟨0, _⟩ => show win0_2.index t 0 * 512 + 1 * b.val = J.val; rw [(index_2 t).1]; omega
  | ⟨1, _⟩ => show win0_2.index t 1 * 128 + 1 * k.val = k.val; rw [(index_2 t).2]; omega

/-- The values a row has kept after `n` bank rows. -/
def kept10 (B : Fin 4096) (n : ℕ) (l : Fin 16) : EReal :=
  if l.val < 10 then top neg (seen (feat m c) (bank m c) B n) (l.val + 1) else neg

theorem kept10_zero (B : Fin 4096) (l : Fin 16) : kept10 m c B 0 l = neg := by
  unfold kept10; rw [seen_zero, top_empty, ite_self]

/-- A point's similarities. -/
theorem sims (t : Fin cfg0.N) {v : FVec Ideal S512x128 .f32} (b j : Fin 512)
    (hv : row v b = nrm (row (feat m c) (rowOf t b))) :
    k0_pay5 (F := Ideal) (grid0.coords t) (iblk m c 2 t) (iblk m c 1 t) v (ix2 b j)
      = sim (feat m c) (bank m c) (rowOf t b) ⟨512 * (t.val % 32) + j.val, by have := j.isLt; omega⟩ :=
  pay5_sim _ _ _ _ _ _ _ (by rw [coord_1]) hv (iblk_2 m c t j _ rfl) (fun _ => iblk_1 m c t j _ rfl)

/-- A point's ten values. -/
theorem step_ms (t : Fin cfg0.N) {v : FVec Ideal S512x128 .f32} {W : FVec Ideal S512x16 .f32} (b : Fin 512)
    (hv : row v b = nrm (row (feat m c) (rowOf t b)))
    (hW : ∀ l, W (ix2 b l) = kept10 m c (rowOf t b) (512 * (t.val % 32)) l) (k : ℕ) (hk : k < 10) :
    ms (k0_pay5 (F := Ideal) (grid0.coords t) (iblk m c 2 t) (iblk m c 1 t) v) W k (ix2 b 0)
      = top neg (seen (feat m c) (bank m c) (rowOf t b) (512 * (t.val % 32 + 1))) (k + 1) :=
  block_ms (n := 512 * (t.val % 32)) (by omega) (fun j => sims m c t b j hv) hW k hk

theorem step_kept (t : Fin cfg0.N) {v : FVec Ideal S512x128 .f32} {W : FVec Ideal S512x16 .f32} (b : Fin 512)
    (hv : row v b = nrm (row (feat m c) (rowOf t b)))
    (hW : ∀ l, W (ix2 b l) = kept10 m c (rowOf t b) (512 * (t.val % 32)) l) (l : Fin 16) :
    kept (k0_pay5 (F := Ideal) (grid0.coords t) (iblk m c 2 t) (iblk m c 1 t) v) W (ix2 b l)
      = kept10 m c (rowOf t b) (512 * (t.val % 32 + 1)) l := by
  rw [kept_apply, kept10]
  split
  · next h => exact step_ms m c t b hv hW _ h
  · rfl

theorem step_total (t : Fin cfg0.N) (h31 : t.val % 32 = 31) {v : FVec Ideal S512x128 .f32} {W : FVec Ideal S512x16 .f32}
    (b : Fin 512) (hv : row v b = nrm (row (feat m c) (rowOf t b)))
    (hW : ∀ l, W (ix2 b l) = kept10 m c (rowOf t b) (512 * (t.val % 32)) l) :
    total (k0_pay5 (F := Ideal) (grid0.coords t) (iblk m c 2 t) (iblk m c 1 t) v) W (ix2 b 0)
      = ∑ k : Fin 10, top neg (seen (feat m c) (bank m c) (rowOf t b) 16384) (k.val + 1) := by
  rw [total_apply]
  refine Finset.sum_congr rfl fun k _ => ?_
  rw [step_ms m c t b hv hW _ k.isLt, h31]

/-- The point before a row block's later point: same row block, one block of bank rows fewer. -/
theorem rowOf_pred (t : Fin cfg0.N) (h : ¬t.val % 32 = 0) (h' : t.val - 1 < cfg0.N) (b : Fin 512) :
    rowOf ⟨t.val - 1, h'⟩ b = rowOf t b := by
  apply Fin.ext; show 512 * ((t.val - 1) / 32) + b.val = 512 * (t.val / 32) + b.val; omega

/-- What the two buffers hold after point `n`. -/
def Holds (n : ℕ) (h : n < cfg0.N) : Prop :=
  ∀ b : Fin 512, row (outsAt0 m c n h).2.1 b = nrm (row (feat m c) (rowOf ⟨n, h⟩ b))
    ∧ ∀ l : Fin 16, (outsAt0 m c n h).2.2 (ix2 b l) = kept10 m c (rowOf ⟨n, h⟩ b) (512 * (n % 32 + 1)) l

theorem holds_A (t : Fin cfg0.N) (h0 : t.val % 32 = 0) : Holds m c t.val t.isLt := by
  have h1 : ¬t.val % 32 = 31 := by omega
  intro b
  rw [outsAt0_A m c t h0 h1]
  dsimp only
  rw [left_A_0, left_A_1]
  have hv : row (k0_pay3 (F := Ideal) (iblk m c 0 t)) b = nrm (row (feat m c) (rowOf t b)) := by
    funext k
    show k0_pay3 (F := Ideal) (iblk m c 0 t) (ix2 b k) = _
    rw [pay3_apply, iblk_0]
  refine ⟨hv, fun l => step_kept m c t b hv (fun l => ?_) l⟩
  rw [pay4_apply, h0, Nat.mul_zero, kept10_zero]

/-- What a later point of a row block finds. -/
theorem found (t : Fin cfg0.N) (h0 : ¬t.val % 32 = 0) (h' : t.val - 1 < cfg0.N) (ih : Holds m c (t.val - 1) h') (b : Fin 512) :
    row (outsAt0 m c (t.val - 1) h').2.1 b = nrm (row (feat m c) (rowOf t b))
      ∧ ∀ l : Fin 16, (outsAt0 m c (t.val - 1) h').2.2 (ix2 b l) = kept10 m c (rowOf t b) (512 * (t.val % 32)) l := by
  have h := ih b
  rw [rowOf_pred t h0 h' b, show (t.val - 1) % 32 + 1 = t.val % 32 by omega] at h
  exact h

theorem holds_B (t : Fin cfg0.N) (h0 : ¬t.val % 32 = 0) (h1 : ¬t.val % 32 = 31)
    (ih : Holds m c (t.val - 1) (Nat.lt_of_le_of_lt (Nat.sub_le _ _) t.isLt)) : Holds m c t.val t.isLt := by
  intro b
  have h := found m c t h0 _ ih b
  rw [outsAt0_B m c t h0 h1]
  dsimp only
  rw [left_B_1]
  exact ⟨h.1, fun l => step_kept m c t b h.1 h.2 l⟩

theorem holds_C (t : Fin cfg0.N) (h0 : ¬t.val % 32 = 0) (h1 : t.val % 32 = 31)
    (ih : Holds m c (t.val - 1) (Nat.lt_of_le_of_lt (Nat.sub_le _ _) t.isLt)) : Holds m c t.val t.isLt := by
  intro b
  have h := found m c t h0 _ ih b
  rw [outsAt0_C m c t h0 h1]
  dsimp only
  rw [left_C_1]
  exact ⟨h.1, fun l => step_kept m c t b h.1 h.2 l⟩

theorem holds : ∀ (n : ℕ) (h : n < cfg0.N), Holds m c n h
  | 0, h => holds_A m c ⟨0, h⟩ rfl
  | n + 1, h => by
    by_cases h0 : (n + 1) % 32 = 0
    · exact holds_A m c ⟨n + 1, h⟩ h0
    · by_cases h1 : (n + 1) % 32 = 31
      · exact holds_C m c ⟨n + 1, h⟩ h0 h1 (holds n _)
      · exact holds_B m c ⟨n + 1, h⟩ h0 h1 (holds n _)

/-- What a row block's last point leaves in the result block. -/
theorem block_total (t : Fin cfg0.N) (h1 : t.val % 32 = 31) (b : Fin 512) :
    (outsAt0 m c t.val t.isLt).1 (ix2 b 0)
      = ∑ k : Fin 10, top neg (seen (feat m c) (bank m c) (rowOf t b) 16384) (k.val + 1) := by
  have h0 : ¬t.val % 32 = 0 := by omega
  have h := found m c t h0 _ (holds m c _ (Nat.lt_of_le_of_lt (Nat.sub_le _ _) t.isLt)) b
  rw [outsAt0_C m c t h0 h1]
  dsimp only
  rw [left_C_3]
  exact step_total m c t h1 b h.1 h.2

end Cert.KernelIdeal.Top

end
-- ==== Proof.KernelRun.lean ====
/-
  What the kernel's program ends with: the column of row sums, and one minus their mean over the ten values a row.
-/
module

public import proofs.«01_k».proof.Proof.Points
public import Idealize.ShloMosaic.Lib.IdealHost

@[expose] public section

set_option maxRecDepth 16384

noncomputable section

namespace Cert.KernelIdeal.Top

open Idealize.ShloMosaic Idealize.ShloMosaic.TcCoe Idealize.SL.Sem Cert.KernelIdeal.Gen Cert.Norm Cert.TopTen
open Idealize.ShloMosaic.Pipeline (Dat)
open scoped BigOperators

/-- The sum of a feature row's ten greatest similarities. -/
def rowSum (f : Feat) (g : Bank) (B : Fin 4096) : EReal := ∑ k : Fin 10, top neg (seen f g B 16384) (k.val + 1)

variable (m : (ℓ : Loc nD τ sig) → Buf (Elt Ideal) ℓ) (ρ : Dev nD → PrngReg) (c : Dev nD)

/-- The column the region leaves. -/
def column : Buf (Elt Ideal) ((c : Thread nD τ).loc main_v0) :=
  fun i : S4096x1.Idx => rowSum (feat m c) (bank m c) (i 0)

theorem outs_column (t : Fin cfg0.N) (h1 : t.val % 32 = 31) (j : S512x1.Idx) :
    (outsAt0 m c t.val t.isLt).1 j = rowSum (feat m c) (bank m c) (rowOf t (j 0)) := by
  have e : j = ix2 (j 0) 0 := by
    funext a
    match a with
    | ⟨0, _⟩ => rfl
    | ⟨1, _⟩ => exact Subsingleton.elim (α := Fin 1) _ _
  conv_lhs => rw [e]
  exact block_total m c t h1 (j 0)

theorem flushed_column (t : Fin cfg0.N) (hf : (cfg0.win 3).flush t = true) :
    (dats m 0 c).flushed 3 t = ((cfg0.win 3).blk t).view.read (Elt Ideal) (column m c) := by
  have h1 := (flush0_3 t).mp hf
  show (cfg0.win 3).cut (grid0.coords t) ((dats m 0 c).after 3 t) = _
  rw [after0_3]
  funext j
  rw [View.read_apply]
  show (outsAt0 m c t.val t.isLt).1 j = rowSum (feat m c) (bank m c) _
  rw [outs_column m c t h1]
  congr 1
  apply Fin.ext
  show 512 * (t.val / 32) + (j 0).val = win0_3.index t 0 * 512 + 1 * (j 0).val
  rw [(index_3 t).1]; omega

theorem size_3 : ∀ t : Fin cfg0.N, win0_3.xsize (grid0.coords t) 0 = 512 ∧ win0_3.xsize (grid0.coords t) 1 = 1 := by
  decide +kernel

theorem final_column : (dats m 0 c).arrAt 3 cfg0.N = column m c :=
  (dats m 0 c).arrAt_eq_of_cover 3 (column m c) (flushed_column m c) fun i => by
    have hN : cfg0.N = 256 := N_0
    have h0 : (i 0 : Nat) < 4096 := (i 0).isLt
    have h1 : (i 1 : Nat) < 1 := (i 1).isLt
    have ht : (i 0 : Nat) / 512 * 32 + 31 < cfg0.N := by omega
    refine ⟨⟨(i 0 : Nat) / 512 * 32 + 31, ht⟩, (flush0_3 _).mpr (by show ((i 0 : Nat) / 512 * 32 + 31) % 32 = 31; omega), ?_⟩
    have hi := index_3 ⟨(i 0 : Nat) / 512 * 32 + 31, ht⟩
    have hs := size_3 ⟨(i 0 : Nat) / 512 * 32 + 31, ht⟩
    dsimp only at hi
    show i ∈ ((View.whole main_v0).slice (win0_3.rect ⟨(i 0 : Nat) / 512 * 32 + 31, ht⟩)).set
    rw [View.set_slice_whole, Rect.mem_set_unit]
    intro a
    match a with
    | ⟨0, _⟩ =>
      show win0_3.index ⟨_, ht⟩ 0 * 512 ≤ (i 0 : Nat) ∧ (i 0 : Nat) < win0_3.index ⟨_, ht⟩ 0 * 512 + win0_3.xsize (grid0.coords ⟨_, ht⟩) 0
      rw [hi.1, hs.1]; omega
    | ⟨1, _⟩ =>
      show win0_3.index ⟨_, ht⟩ 1 * 1 ≤ (i 1 : Nat) ∧ (i 1 : Nat) < win0_3.index ⟨_, ht⟩ 1 * 1 + win0_3.xsize (grid0.coords ⟨_, ht⟩) 1
      rw [hi.2, hs.2]; omega

/-- The program's result as a function of the column. -/
def tail (x : FVec Ideal S4096x1 .f32) : FVec Ideal S_ .f32 :=
  subf (constant S_ .f32 0x3F800000#32)
    (Host.divf (Host.reduceAdd x (constant S_ .f32 0x00000000#32) reducesTo_S4096x1_S_d0_1 h_S_) (constant S_ .f32 0x47200000#32))

theorem after_tail : Pipeline.afterTail₀ cfgs (dats m) 0 (V0 m) [hostOps1] c main_v3 = tail (column m c) := by
  show StableHlo.after hostOps1 _ (Proc.devRef .tc main_v3) = _
  have h := (dats m 0 c).withArrays_arrAt sharedIn0 (V0 m c) (A_eq m c) 3
  rw [final_column] at h
  generalize Pipeline.withArrays (cfgs 0).spec c (V0 m c) _ = W at h ⊢
  after_region_results
  unfold tail
  rw [← h]

/-- The run: the result, and the arguments unchanged. -/
theorem run : θ_run defs (onTc (τ := τ) (main (F := Ideal))) ⟨m, fun _ => 0, ρ⟩ fun r => ∀ c : Dev nD,
      r.2.mem ((c.tc : Thread nD τ).loc main_v3) = tail (column m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 rfl (by decide))).trans (after_tail m c),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c)))⟩)
    (run_main m ρ)

/-- The result's value. -/
theorem tail_apply (i : S_.Idx) : tail (column m c) i
    = Ideal.ofBits .f32 0x3F800000#32
      - Ideal.div (∑ B : Fin 4096, rowSum (feat m c) (bank m c) B) (Ideal.ofBits .f32 0x47200000#32) := by
  unfold tail
  show Ideal.ofBits .f32 0x3F800000#32 - Ideal.div (Ideal.hostReduceAdd reducesTo_S4096x1_S_d0_1 (column m c) (Ideal.ofBits .f32 0x00000000#32) i) (Ideal.ofBits .f32 0x47200000#32) = _
  have e : ∑ i : (⟨2, ![4096, 1]⟩ : Shape).Idx, rowSum (feat m c) (bank m c) (i 0) = ∑ B : Fin 4096, rowSum (feat m c) (bank m c) B := by
    rw [sum_idx2]
    exact Finset.sum_congr rfl fun B _ => Fin.sum_univ_one _
  rw [Ideal.hostReduceAdd_total _ (fun b => b.elim0), Ideal.ofBits_zero_f32, zero_add, ← e]
  rfl

end Cert.KernelIdeal.Top

end
-- ==== Proof.HostRows.lean ====
/-
  The host's row norm and row normalisation over the extended reals, read entry by entry.
-/
module

public import proofs.«01_k».proof.Proof.Spec
public import Idealize.ShloMosaic.Lib.IdealHost

@[expose] public section

set_option maxRecDepth 16384

noncomputable section

namespace Cert.KernelIdeal.Top

open Idealize.ShloMosaic Cert.Norm
open scoped BigOperators

variable {n : ℕ}

abbrev Mat (n : ℕ) : Shape := ⟨2, ![n, 128]⟩
abbrev Col (n : ℕ) : Shape := ⟨2, ![n, 1]⟩
abbrev Line (n : ℕ) : Shape := ⟨1, ![n]⟩
abbrev Pt : Shape := ⟨0, ![]⟩

/-- The host's row norms. -/
abbrev hostLen (x : FVec Ideal (Mat n) .f32) (hr : (Mat n).ReducesTo [1] (Line n)) (hu : 0 < Pt.numel)
    (hb : (Line n).BroadcastsInDim (Col n) (![0] : Fin 1 → Fin (Col n).rank)) : FVec Ideal (Col n) .f32 :=
  Host.sqrt (broadcastInDim (Col n) ![0] hb (Host.reduceAdd (mulf x x) (constant Pt .f32 0x00000000#32) hr hu))

/-- The host's normalised rows. -/
abbrev hostNrm (x : FVec Ideal (Mat n) .f32) (hr : (Mat n).ReducesTo [1] (Line n)) (hu : 0 < Pt.numel)
    (hb : (Line n).BroadcastsInDim (Col n) (![0] : Fin 1 → Fin (Col n).rank))
    (hp : Pt.BroadcastsInDim (Col n) (![] : Fin 0 → Fin (Col n).rank))
    (hm : (Col n).BroadcastsInDim (Mat n) (![0, 1] : Fin 2 → Fin (Mat n).rank)) : FVec Ideal (Mat n) .f32 :=
  Host.divf x (broadcastInDim (Mat n) ![0, 1] hm
    (maximumf (broadcastInDim (Col n) ![] hp (id (constant Pt .f32 0x2B8CBCCC#32))) (hostLen x hr hu hb)))

theorem hostLen_apply (x : FVec Ideal (Mat 4096) .f32) (hr : (Mat 4096).ReducesTo [1] (Line 4096)) (hu : 0 < Pt.numel)
    (hb : (Line 4096).BroadcastsInDim (Col 4096) (![0] : Fin 1 → Fin (Col 4096).rank)) (b : Fin 4096) :
    hostLen x hr hu hb (ix2 b 0) = len (row x b) := by
  unfold hostLen len
  pointwise []

theorem hostNrm_feat (x : FVec Ideal (Mat 4096) .f32) (hr : (Mat 4096).ReducesTo [1] (Line 4096)) (hu : 0 < Pt.numel)
    (hb : (Line 4096).BroadcastsInDim (Col 4096) (![0] : Fin 1 → Fin (Col 4096).rank))
    (hp : Pt.BroadcastsInDim (Col 4096) (![] : Fin 0 → Fin (Col 4096).rank))
    (hm : (Col 4096).BroadcastsInDim (Mat 4096) (![0, 1] : Fin 2 → Fin (Mat 4096).rank)) (b : Fin 4096) (k : Fin 128) :
    hostNrm x hr hu hb hp hm (ix2 b k) = nrm (row x b) k := by
  unfold hostNrm hostLen nrm len
  pointwise [id]
  rw [max_comm]

theorem hostNrm_bank (x : FVec Ideal (Mat 16384) .f32) (hr : (Mat 16384).ReducesTo [1] (Line 16384)) (hu : 0 < Pt.numel)
    (hb : (Line 16384).BroadcastsInDim (Col 16384) (![0] : Fin 1 → Fin (Col 16384).rank))
    (hp : Pt.BroadcastsInDim (Col 16384) (![] : Fin 0 → Fin (Col 16384).rank))
    (hm : (Col 16384).BroadcastsInDim (Mat 16384) (![0, 1] : Fin 2 → Fin (Mat 16384).rank)) (b : Fin 16384) (k : Fin 128) :
    hostNrm x hr hu hb hp hm (ix2 b k) = nrm (row x b) k := by
  unfold hostNrm hostLen nrm len
  pointwise [id]
  rw [max_comm]

end Cert.KernelIdeal.Top

end
-- ==== Proof.RefWord.lean ====
/-
  The reference's index arithmetic on one word: a row number below 4096 stays itself.
-/
module

public import Idealize.ShloMosaic.PureOps

@[expose] public section

set_option maxRecDepth 16384

noncomputable section

namespace Cert.ReferenceIdeal.Top

open Idealize.ShloMosaic

/-- Remainder by the bank's length, with the sign of the divisor, as the program spells it. -/
def rem (w : BitVec 32) : BitVec 32 :=
  let r := IntOp.remsi ArithUnit.host w (Scalar.select (IntOp.cmpi CmpIPredicate.eq 16384#32 0#32) (1#32) 16384#32)
  let d := Scalar.select (IntOp.cmpi CmpIPredicate.eq 16384#32 0#32) (1#32) 16384#32
  Scalar.select (IntOp.andi (IntOp.cmpi CmpIPredicate.ne (IntOp.cmpi CmpIPredicate.slt r 0#32) (IntOp.cmpi CmpIPredicate.slt d 0#32))
    (IntOp.cmpi CmpIPredicate.ne r 0#32)) (IntOp.addi r d) r

theorem rem_small : ∀ n < 4096, rem (BitVec.ofNat 32 n) = BitVec.ofNat 32 n := by decide +kernel

/-- A negative row counted from the end. -/
def wrap (w : BitVec 32) : BitVec 32 :=
  Scalar.select (IntOp.cmpi CmpIPredicate.slt w 0#32) (IntOp.addi w 16384#32) w

theorem wrap_small : ∀ n < 4096, wrap (BitVec.ofNat 32 n) = BitVec.ofNat 32 n := by decide +kernel

end Cert.ReferenceIdeal.Top

end
-- ==== Proof.RefIndex.lean ====
/-
  The reference's row indices: row `c` of the update is row `c` of the bank.
-/
module

public import proofs.«01_k».proof.Proof.HostRows
public import proofs.«01_k».proof.Proof.RefWord
public import proofs.«01_k».proof.Proof.Gen.ReferenceIdeal.Run

@[expose] public section

set_option maxRecDepth 16384

noncomputable section

namespace Cert.ReferenceIdeal.Top

open Idealize.ShloMosaic Idealize.SL.Sem Cert.ReferenceIdeal Cert.ReferenceIdeal.Gen Cert.ReferenceIdeal.Value

variable (V0 : Valuation τ sig (Elt Ideal))

theorem v5_apply (c : Fin 4096) : res_main_v5 V0 (ix1 c) = BitVec.ofNat 32 c.val := by
  have h := rem_small c.val c.isLt
  unfold rem at h
  pointwise [res_main_v5, res_main_call2_v4, res_main_call2_v2, res_main_call2_v0, Host.remsi]
  exact h

/-- The row indices the gathers and scatters take. -/
abbrev idxs : IVec S4096x1 32 :=
  broadcastInDim S4096x1 ![0] bcast_S4096_S4096x1_0 (select (cmpi .slt (res_main_v5 V0) (broadcastInDim S4096 ![] bcast_S_S4096 (constantI S_ 32 0#32))) (addi (res_main_v5 V0) (broadcastInDim S4096 ![] bcast_S_S4096 (constantI S_ 32 16384#32))) (res_main_v5 V0))

theorem wrap_apply (w : IVec S4096 32) (c : Fin 4096) (e : w (ix1 c) = BitVec.ofNat 32 c.val) :
    broadcastInDim S4096x1 ![0] bcast_S4096_S4096x1_0 (select (cmpi .slt w (broadcastInDim S4096 ![] bcast_S_S4096 (constantI S_ 32 0#32))) (addi w (broadcastInDim S4096 ![] bcast_S_S4096 (constantI S_ 32 16384#32))) w) (ix2 c 0)
      = BitVec.ofNat 32 c.val := by
  have h := wrap_small c.val c.isLt
  unfold wrap at h
  pointwise []
  rw [e]
  exact h

theorem idxs_apply (c : Fin 4096) : idxs V0 (ix2 c 0) = BitVec.ofNat 32 c.val :=
  wrap_apply (res_main_v5 V0) c (v5_apply V0 c)

end Cert.ReferenceIdeal.Top

end
-- ==== Proof.RefRows.lean ====
/-
  The reference's gathers and scatters by row: gathering rows 0 … 4095, and writing them back.
-/
module

public import proofs.«01_k».proof.Proof.RefIndex
public import Idealize.ShloMosaic.Lib.Routing.OpsSet
public import Idealize.ShloMosaic.Lib.Routing.OpsPair

@[expose] public section

set_option maxRecDepth 16384

noncomputable section

namespace Cert.ReferenceIdeal.Top

open Idealize.ShloMosaic Idealize.SL.Sem Cert.ReferenceIdeal Cert.ReferenceIdeal.Gen Cert.ReferenceIdeal.Value

abbrev dS := scatter_S16384x128_S4096x1_S4096x128_1_0_0_1
abbrev dG := gather_S16384x128_S4096x1_S4096x128_1_0_n_n_0_1_1128

theorem toInt_small (n : ℕ) (h : n < 4096) : (BitVec.ofNat 32 n).toInt = (n : ℤ) := by
  rw [BitVec.toInt_eq_toNat_of_lt (by rw [BitVec.toNat_ofNat]; omega), BitVec.toNat_ofNat]; omega

variable (idx : IVec S4096x1 32) (hidx : ∀ c : Fin 4096, idx (ix2 c 0) = BitVec.ofNat 32 c.val)

include hidx in
/-- Update entry `(c, y)` lands at row `c`, column `y`. -/
theorem lands_row (c : Fin 4096) (y : Fin 128) (r : Fin 16384) (k : Fin 128) :
    dS.resultIdx? (ix2 c y) idx = some (ix2 r k) ↔ c.val = r.val ∧ y = k := by
  have hw0 : dS.window (ix2 c y) 0 = 0 := rfl
  have hw1 : dS.window (ix2 c y) 1 = y.val := rfl
  have hs1 : dS.start (ix2 c y) idx 1 = 0 := rfl
  have hs0 : dS.start (ix2 c y) idx 0 = (c.val : ℤ) := by
    have e : dS.start (ix2 c y) idx 0 = (idx (ix2 c 0)).toInt := by
      show (idx (dS.siIdx (ix2 c y) _)).toInt = _
      congr 2
      funext a
      match a with
      | ⟨0, _⟩ => rfl
      | ⟨1, _⟩ => exact Subsingleton.elim (α := Fin 1) _ _
    rw [e, hidx, toInt_small _ c.isLt]
  rw [Routing.resultIdx?_eq_some]
  constructor
  · intro h
    have h0 := h 0
    have h1 := h 1
    rw [hs0, hw0] at h0
    rw [hs1, hw1] at h1
    have h0' : (c.val : ℤ) + ((0 : ℕ) : ℤ) = (r.val : ℤ) := h0
    have h1' : (0 : ℤ) + (y.val : ℤ) = (k.val : ℤ) := h1
    exact ⟨by omega, Fin.ext (by omega)⟩
  · rintro ⟨h0, rfl⟩ a
    match a with
    | ⟨0, _⟩ =>
      show dS.start (ix2 c y) idx 0 + ((dS.window (ix2 c y) 0 : ℕ) : ℤ) = (r.val : ℤ)
      rw [hs0, hw0]; omega
    | ⟨1, _⟩ =>
      show dS.start (ix2 c y) idx 1 + ((dS.window (ix2 c y) 1 : ℕ) : ℤ) = (y.val : ℤ)
      rw [hs1, hw1]; omega

theorem ix2_self (j : S4096x128.Idx) : ix2 (n0 := 4096) (n1 := 128) (j 0) (j 1) = j := ix2_eta j

include hidx in
/-- The scatter: the first 4096 rows are the update's, the others the operand's. -/
theorem scatter_rows (x : FVec Ideal S16384x128 .f32) (u : FVec Ideal S4096x128 .f32) (r : Fin 16384) (k : Fin 128) :
    Host.scatter dS (fun _ b => b) x idx u (ix2 r k)
      = if h : r.val < 4096 then u (ix2 ⟨r.val, h⟩ k) else x (ix2 r k) := by
  have lands : ∀ j : S4096x128.Idx, dS.resultIdx? j idx = some (ix2 r k) → (j 0).val = r.val ∧ j 1 = k := fun j hj =>
    (lands_row idx hidx (j 0) (j 1) r k).1 ((congrArg (fun t => dS.resultIdx? t idx) (ix2_self j)).trans hj)
  by_cases h : r.val < 4096
  · rw [dif_pos h]
    refine Routing.scatter_set_hit dS x idx u _ _ (fun j hj => ?_) (ix2 ⟨r.val, h⟩ k) ((lands_row idx hidx _ _ _ _).2 ⟨rfl, rfl⟩)
    obtain ⟨h0, h1⟩ := lands j hj
    have h0' : j 0 = (⟨r.val, h⟩ : Fin 4096) := Fin.ext h0
    rw [← ix2_self j, h0', h1]
  · rw [dif_neg h]
    refine Routing.scatter_set_miss dS x idx u _ fun j hj => h ?_
    have := (j 0).isLt
    have h0 := (lands j hj).1
    have : (j 0).val < 4096 := (j 0).isLt
    omega

include hidx in
/-- The gather: row `c` of the operand. -/
theorem gather_rows (x : FVec Ideal S16384x128 .f32) (c : Fin 4096) (y : Fin 128) :
    Host.gather dG x idx (ix2 c y) = x (ix2 ⟨c.val, by have := c.isLt; omega⟩ y) :=
  Routing.gather_row dG rfl rfl rfl rfl rfl x idx c y ⟨c.val, by have := c.isLt; omega⟩ (hidx c) (by norm_num)

end Cert.ReferenceIdeal.Top

end
-- ==== Proof.RefSim.lean ====
/-
  The reference's similarities: the updated bank's rows, normalised, against the normalised feature rows.
-/
module

public import proofs.«01_k».proof.Proof.RefRows

@[expose] public section

set_option maxRecDepth 16384

noncomputable section

namespace Cert.ReferenceIdeal.Top

open Idealize.ShloMosaic Idealize.SL.Sem Cert.ReferenceIdeal Cert.ReferenceIdeal.Gen Cert.ReferenceIdeal.Value
open Cert.KernelIdeal.Top Cert.Norm
open scoped BigOperators

/-- The moving average of two arrays of rows, entry by entry. -/
theorem ema_apply (X Y : FVec Ideal S4096x128 .f32) (h : S_.BroadcastsInDim S4096x128 (![] : Fin 0 → Fin S4096x128.rank))
    (b : Fin 4096) (k : Fin 128) :
    addf (mulf (broadcastInDim S4096x128 ![] h (constant S_ .f32 0x3F7EB852#32)) X)
        (mulf (broadcastInDim S4096x128 ![] h (constant S_ .f32 0x3BA3D70A#32)) Y) (ix2 b k)
      = moved (row X b) (row Y b) k := by
  unfold moved
  pointwise []

theorem dot_apply (A : FVec Ideal S4096x128 .f32) (B : FVec Ideal S16384x128 .f32) (b : Fin 4096) (j : Fin 16384) :
    Host.dotGeneral dot_S4096x128_S128x16384_S4096x16384_1_0_0_1_n_n none A
        (transpose S128x16384 [1, 0] B transposes_S16384x128_S128x16384_1_0) (ix2 b j)
      = dot (row A b) (row B j) := by
  unfold dot
  pointwise []

variable (V0 : Valuation τ sig (Elt Ideal))

/-- The features and the bank the reference is given. -/
abbrev featR : Feat := V0 (Proc.devRef .tc main_arg0)
abbrev bankR : Bank := V0 (Proc.devRef .tc main_arg1)

/-- The features, normalised. -/
abbrev featN : FVec Ideal S4096x128 .f32 :=
  hostNrm (n := 4096) (featR V0) reducesTo_S4096x128_S4096_d1 h_S_ bcast_S4096_S4096x1_0 bcast_S_S4096x1 bcast_S4096x1_S4096x128_0_1

theorem featN_row (b : Fin 4096) : row (featN V0) b = nrm (row (featR V0) b) :=
  funext fun k => hostNrm_feat (featR V0) _ _ _ _ _ b k

/-- The bank after the update, before its rows are normalised. -/
theorem v24_row (r : Fin 16384) : row (res_main_v24 V0) r = bankRow (featR V0) (bankR V0) r := by
  funext k
  have e := scatter_rows (idxs V0) (idxs_apply V0) (bankR V0)
    (addf (mulf (broadcastInDim S4096x128 ![] bcast_S_S4096x128 (constant S_ .f32 0x3F7EB852#32)) (Host.gather dG (bankR V0) (idxs V0)))
      (mulf (broadcastInDim S4096x128 ![] bcast_S_S4096x128 (constant S_ .f32 0x3BA3D70A#32)) (featN V0))) r k
  refine e.trans ?_
  unfold bankRow
  by_cases h : r.val < 4096
  · rw [dif_pos h, dif_pos h, ema_apply, featN_row]
    have hg : row (Host.gather dG (bankR V0) (idxs V0)) ⟨r.val, h⟩ = row (bankR V0) r :=
      funext fun y => gather_rows (idxs V0) (idxs_apply V0) (bankR V0) ⟨r.val, h⟩ y
    rw [hg]
  · rw [dif_neg h, dif_neg h]

/-- The updated rows, gathered again. -/
theorem v31_row (c : Fin 4096) : row (res_main_v31 V0) c = bankRow (featR V0) (bankR V0) ⟨c.val, by have := c.isLt; omega⟩ := by
  rw [← v24_row]
  funext y
  exact gather_rows (idxs V0) (idxs_apply V0) (res_main_v24 V0) c y

/-- The bank the similarities are with: the updated rows normalised, the others as they were. -/
theorem v42_row (r : Fin 16384) : row (res_main_v42 V0) r
    = if r.val < 4096 then nrm (bankRow (featR V0) (bankR V0) r) else bankRow (featR V0) (bankR V0) r := by
  funext k
  have e := scatter_rows (idxs V0) (idxs_apply V0) (res_main_v24 V0)
    (hostNrm (n := 4096) (res_main_v31 V0) reducesTo_S4096x128_S4096_d1 h_S_ bcast_S4096_S4096x1_0 bcast_S_S4096x1 bcast_S4096x1_S4096x128_0_1) r k
  refine e.trans ?_
  by_cases h : r.val < 4096
  · rw [dif_pos h, if_pos h, hostNrm_feat, v31_row]
  · rw [dif_neg h, if_neg h, ← v24_row]

/-- The similarities, when every updated row is long enough to be normalised once and for all. -/
theorem v52_apply (hl : ∀ r : Fin 16384, r.val < 4096 → eps ≤ len (bankRow (featR V0) (bankR V0) r)) (b : Fin 4096) (j : Fin 16384) :
    res_main_v52 V0 (ix2 b j) = sim (featR V0) (bankR V0) b j := by
  have e := dot_apply (featN V0)
    (hostNrm (n := 16384) (res_main_v42 V0) reducesTo_S16384x128_S16384_d1 h_S_ bcast_S16384_S16384x1_0 bcast_S_S16384x1 bcast_S16384x1_S16384x128_0_1) b j
  refine e.trans ?_
  unfold sim
  rw [featN_row]
  refine congrArg (dot _) (funext fun k => ?_)
  refine (hostNrm_bank (res_main_v42 V0) _ _ _ _ _ j k).trans ?_
  rw [v42_row]
  by_cases h : j.val < 4096
  · rw [if_pos h, nrm_nrm _ (hl j h)]
  · rw [if_neg h]

end Cert.ReferenceIdeal.Top

end
-- ==== Proof.TopK.lean ====
/-
  The ten values a top-k picks from a row: when they are strictly decreasing they are the ten greatest distinct values.
-/
module

public import proofs.«01_k».proof.Proof.Spec
public import Idealize.ShloMosaic.Lib.SortFacts

@[expose] public section

set_option maxRecDepth 16384

noncomputable section

namespace Cert.KernelIdeal.Top

open Idealize.ShloMosaic Cert.Norm Cert.TopTen

abbrev Sims : Shape := ⟨2, ![4096, 16384]⟩
abbrev Ten : Shape := ⟨2, ![4096, 10]⟩

/-- The ten values picked from every row. -/
abbrev picks (x : FVec Ideal Sims .f32) (h : Sims.Slices (fun _ => 0) Ten) : FVec Ideal Ten .f32 :=
  (Host.topK Ten 1 (FloatOps.cmpfTotal (F := Ideal) .gt) x h).1

theorem gt_eq (a b : Ideal .f32) : FloatOps.cmpfTotal (F := Ideal) .gt a b = BitVec.ofBool (decide ((b : EReal) < a)) := rfl

theorem gt_beq (a b : Ideal .f32) : (FloatOps.cmpfTotal (F := Ideal) .gt a b == 1#1) = decide ((b : EReal) < a) := by
  rw [gt_eq]; by_cases h : (b : EReal) < a <;> simp [h]

theorem along_1 (b : Fin 4096) (k j : Fin 16384) : Shape.Idx.along (s := Sims) (ix2 b k) 1 j = ix2 b j := by
  funext a
  match a with
  | ⟨0, _⟩ => rfl
  | ⟨1, _⟩ => rfl

/-- The comparison that orders row `b`. -/
abbrev before (x : FVec Ideal Sims .f32) (b : Fin 4096) (k k' : Fin 16384) : Bool := decide ((x (ix2 b k') : EReal) < x (ix2 b k))

/-- A row sorted by descending value, read at one place. -/
theorem sort2_row (x : FVec Ideal Sims .f32) (y : IVec Sims 32) (b : Fin 4096) (K : Fin 16384) :
    (Host.sort2 Sims 1 (fun l r : Ideal .f32 × BitVec 32 => FloatOps.cmpfTotal (F := Ideal) .gt l.1 r.1) x y).1 (ix2 b K)
      = x (ix2 b (sortedFrom (before x b) K)) := by
  have hR : (fun k k' : Fin 16384 => FloatOps.cmpfTotal (F := Ideal) .gt (x (Shape.Idx.along (s := Sims) (ix2 b K) 1 k))
      (x (Shape.Idx.along (s := Sims) (ix2 b K) 1 k')) == 1#1) = before x b := by
    funext k k'
    rw [gt_beq, along_1, along_1]
  unfold Host.sort2
  rw [dif_pos (show 1 < Sims.rank by decide)]
  refine Eq.trans ?_ (congrArg x (along_1 b K (sortedFrom (before x b) K)))
  exact congrArg (fun R : Fin 16384 → Fin 16384 → Bool => x (Shape.Idx.along (s := Sims) (ix2 b K) 1 (sortedFrom R K))) hR

/-- The picks are the sorted rows cut to ten entries. -/
theorem sliced_eq (x : FVec Ideal Sims .f32) (h : Sims.Slices (fun _ => 0) Ten) :
    picks x h = extractStridedSlice Ten (fun _ => 0)
      (Host.sort2 Sims 1 (fun l r : Ideal .f32 × BitVec 32 => FloatOps.cmpfTotal (F := Ideal) .gt l.1 r.1) x
        (fun i => if hd : 1 < Sims.rank then iotaInDim Sims 32 ⟨1, hd⟩ i else 0#32)).1 h := by
  unfold picks Host.topK
  rfl

/-- The first ten columns, read at one entry. -/
theorem slice_apply (z : FVec Ideal Sims .f32) (h : Sims.Slices (fun _ => 0) Ten) (b : Fin 4096) (k : Fin 10) :
    extractStridedSlice Ten (fun _ => 0) z h (ix2 b k) = z (ix2 b ⟨k.val, by have := k.isLt; omega⟩) := by
  unfold extractStridedSlice
  refine congrArg z ?_
  funext a
  apply Fin.ext
  match a with
  | ⟨0, _⟩ => show 0 + b.val = b.val; omega
  | ⟨1, _⟩ => show 0 + k.val = k.val; omega

/-- Each row's picks are the first ten of the row put in descending order. -/
theorem picks_row (x : FVec Ideal Sims .f32) (h : Sims.Slices (fun _ => 0) Ten) (b : Fin 4096) :
    ∃ σ : Fin 16384 → Fin 16384, Function.Surjective σ ∧ (∀ i j, i < j → x (ix2 b (σ j)) ≤ x (ix2 b (σ i)))
      ∧ ∀ k : Fin 10, picks x h (ix2 b k) = x (ix2 b (σ ⟨k.val, by have := k.isLt; omega⟩)) := by
  refine ⟨sortedFrom (before x b), sortedFrom_surjective _, fun i j hij => ?_, fun k => ?_⟩
  · have := sortedFrom_noInversion (before x b) (before x b)
      (fun a c h => by simp only [before, decide_eq_true_eq, decide_eq_false_iff_not] at h ⊢; exact not_lt.mpr h.le)
      (fun _ _ h => h)
      (fun a c d h h' => by simp only [before, decide_eq_false_iff_not, not_lt] at h h' ⊢; exact h.trans h') i j hij
    simpa only [before, decide_eq_false_iff_not, not_lt] using this
  · refine (congrFun (sliced_eq x h) (ix2 b k)).trans ?_
    rw [slice_apply, sort2_row]

variable {f : Feat} {g : Bank}

/-- Strictly decreasing picks of the similarities are the ten greatest similarities. -/
theorem picks_top (x : FVec Ideal Sims .f32) (h : Sims.Slices (fun _ => 0) Ten) (b : Fin 4096)
    (hx : ∀ j, x (ix2 b j) = sim f g b j)
    (hs : ∀ k : Fin 9, picks x h (ix2 b ⟨k.val + 1, by omega⟩) < picks x h (ix2 b ⟨k.val, by omega⟩)) (k : Fin 10) :
    picks x h (ix2 b k) = top neg (seen f g b 16384) (k.val + 1) := by
  obtain ⟨σ, hσ, hd, hp⟩ := picks_row x h b
  let t : ℕ → EReal := fun k => sim f g b (σ ⟨min k 16383, by omega⟩)
  have ht : ∀ k : Fin 10, picks x h (ix2 b k) = t k.val := fun k => by
    rw [hp, hx]
    exact congrArg (fun q => sim f g b (σ q)) (Fin.ext (by show k.val = min k.val 16383; have := k.isLt; omega))
  have hmem : ∀ j, sim f g b j ∈ seen f g b 16384 := fun j => mem_seen.mpr ⟨j, j.isLt, rfl⟩
  have key := top_sorted (N := neg) (S := seen f g b 16384) (n := 10) t
    (fun a ha => by
      obtain ⟨j, -, rfl⟩ := mem_seen.mp ha
      obtain ⟨i, rfl⟩ := hσ j
      exact ⟨i.val, congrArg (fun q => sim f g b (σ q)) (Fin.ext (by show i.val = min i.val 16383; have := i.isLt; omega))⟩)
    (fun k _ => hmem _)
    (fun i j hij => by
      show sim f g b _ ≤ sim f g b _
      rcases lt_or_eq_of_le (min_le_min_right 16383 hij) with hlt | heq
      · rw [← hx, ← hx]
        exact hd _ _ hlt
      · exact le_of_eq (congrArg (fun q => sim f g b (σ q)) (Fin.ext heq.symm)))
    (fun k hk => by
      have := hs ⟨k, by omega⟩
      rwa [ht, ht] at this)
    (dot_lt_top _ _) (fun k _ => neg_le_dot _ _)
  rw [ht, key k.val k.isLt]

end Cert.KernelIdeal.Top

end
-- ==== Proof.PreMeaning.lean ====
/-
  What the precondition says of its two arguments: the updated rows are long enough, and the ten greatest similarities of a row are distinct.
-/
module

public import proofs.«01_k».proof.Pre_clear_top_ten
public import proofs.«01_k».proof.Proof.RefSim
public import proofs.«01_k».proof.Proof.TopK
public import Idealize.ShloMosaic.Lib.ReduceAll

@[expose] public section

set_option maxRecDepth 16384

noncomputable section

namespace Cert.Pre_clear_top_ten.Top

open Idealize.ShloMosaic Cert.Pre_clear_top_ten Cert.Pre_clear_top_ten.Facts
open Cert.KernelIdeal.Top Cert.Norm
open Cert.ReferenceIdeal.Top (ema_apply dot_apply)
open scoped BigOperators

variable [Facts]

/-- The moved rows, as the precondition writes them. -/
abbrev movedRows (f : Feat) (g : Bank) : FVec Ideal S4096x128 .f32 :=
  addf (mulf (broadcastInDim S4096x128 ![] bcast_S_S4096x128 (constant S_ .f32 0x3F7EB852#32))
      (extractStridedSlice S4096x128 ![0, 0] g slices_S16384x128_S4096x128_0_0))
    (mulf (broadcastInDim S4096x128 ![] bcast_S_S4096x128 (constant S_ .f32 0x3BA3D70A#32))
      (hostNrm (n := 4096) f reducesTo_S4096x128_S4096_d1 h_S_ bcast_S4096_S4096x1_0 bcast_S_S4096x1 bcast_S4096x1_S4096x128_0_1))

/-- The moved rows followed by the untouched ones. -/
abbrev allRows (f : Feat) (g : Bank) : FVec Ideal S16384x128 .f32 :=
  concatenate S16384x128 0 [⟨S4096x128, movedRows f g⟩,
    ⟨S12288x128, extractStridedSlice S12288x128 ![4096, 0] g slices_S16384x128_S12288x128_4096_0⟩]
    concatenates_S4096x128_S12288x128_S16384x128_d0

/-- The similarities, as the precondition writes them. -/
abbrev sims (f : Feat) (g : Bank) : FVec Ideal Sims .f32 :=
  Host.dotGeneral dot_S4096x128_S128x16384_S4096x16384_1_0_0_1_n_n none
    (hostNrm (n := 4096) f reducesTo_S4096x128_S4096_d1 h_S_ bcast_S4096_S4096x1_0 bcast_S_S4096x1 bcast_S4096x1_S4096x128_0_1)
    (transpose S128x16384 [1, 0] (hostNrm (n := 16384) (allRows f g) reducesTo_S16384x128_S16384_d1 h_S_ bcast_S16384_S16384x1_0 bcast_S_S16384x1
      bcast_S16384x1_S16384x128_0_1) transposes_S16384x128_S128x16384_1_0)

/-- Every moved row is as long as the floor. -/
abbrev longRows (f : Feat) (g : Bank) : IVec S4096x1 1 :=
  cmpf .oge (hostLen (n := 4096) (movedRows f g) reducesTo_S4096x128_S4096_d1 h_S_ bcast_S4096_S4096x1_0)
    (broadcastInDim S4096x1 ![] bcast_S_S4096x1 (constant S_ .f32 0x2B8CBCCC#32))

/-- Each pick is greater than the next. -/
abbrev strict (v : FVec Ideal Ten .f32) : IVec S4096x9 1 :=
  cmpf .ogt (extractStridedSlice S4096x9 ![0, 0] v slices_S4096x10_S4096x9_0_0)
    (extractStridedSlice S4096x9 ![0, 1] v slices_S4096x10_S4096x9_0_1)

theorem fn_eq (f : Feat) (g : Bank) : fn (F := Ideal) f g
    = andi (Host.reduce IntOp.andi (longRows f g) (constantI S_ 1 1#1) reducesTo_S4096x1_S_d0_1 h_S_)
        (Host.reduce IntOp.andi (strict (picks (sims f g) sliceFits_S4096x16384_S4096x10)) (constantI S_ 1 1#1) reducesTo_S4096x9_S_d0_1 h_S_) := rfl

theorem movedRows_row (f : Feat) (g : Bank) (b : Fin 4096) :
    row (movedRows f g) b = bankRow f g ⟨b.val, by have := b.isLt; omega⟩ := by
  funext k
  refine (ema_apply _ _ _ b k).trans ?_
  have h1 : row (extractStridedSlice S4096x128 ![0, 0] g slices_S16384x128_S4096x128_0_0) b = row g ⟨b.val, by have := b.isLt; omega⟩ := by
    funext y
    pointwise [row]
  have h2 : row (hostNrm (n := 4096) f reducesTo_S4096x128_S4096_d1 h_S_ bcast_S4096_S4096x1_0 bcast_S_S4096x1 bcast_S4096x1_S4096x128_0_1) b
      = nrm (row f b) := funext fun y => hostNrm_feat f _ _ _ _ _ b y
  rw [h1, h2]
  unfold bankRow
  rw [dif_pos b.isLt]

theorem concat_row (A : FVec Ideal S4096x128 .f32) (g : Bank) (r : Fin 16384) (k : Fin 128) :
    concatenate S16384x128 0 [⟨S4096x128, A⟩,
        ⟨S12288x128, extractStridedSlice S12288x128 ![4096, 0] g slices_S16384x128_S12288x128_4096_0⟩]
        concatenates_S4096x128_S12288x128_S16384x128_d0 (ix2 r k)
      = if h : r.val < 4096 then row A ⟨r.val, h⟩ k else row g r k := by
  have e : ∀ (h : ¬ r.val < 4096) (hp : 4096 + (r.val - 4096) < 16384), g (ix2 ⟨4096 + (r.val - 4096), hp⟩ k) = g (ix2 r k) := fun h hp =>
    congrArg (fun q => g (ix2 q k)) (Fin.ext (by show 4096 + (r.val - 4096) = r.val; omega))
  pointwise [row]
  by_cases h : r.val < 4096
  · rw [dif_pos h, dif_pos h]
  · rw [dif_neg h, dif_neg h]
    exact e h _

theorem allRows_row (f : Feat) (g : Bank) (r : Fin 16384) : row (allRows f g) r = bankRow f g r := by
  funext k
  refine (concat_row (movedRows f g) g r k).trans ?_
  by_cases h : r.val < 4096
  · rw [dif_pos h, movedRows_row]
  · rw [dif_neg h]
    unfold bankRow
    rw [dif_neg h]

theorem sims_apply (f : Feat) (g : Bank) (b : Fin 4096) (j : Fin 16384) : sims f g (ix2 b j) = sim f g b j := by
  refine (dot_apply _ _ b j).trans ?_
  unfold sim
  have h1 : row (hostNrm (n := 4096) f reducesTo_S4096x128_S4096_d1 h_S_ bcast_S4096_S4096x1_0 bcast_S_S4096x1 bcast_S4096x1_S4096x128_0_1) b
      = nrm (row f b) := funext fun y => hostNrm_feat f _ _ _ _ _ b y
  have h2 : row (hostNrm (n := 16384) (allRows f g) reducesTo_S16384x128_S16384_d1 h_S_ bcast_S16384_S16384x1_0 bcast_S_S16384x1
      bcast_S16384x1_S16384x128_0_1) j = nrm (bankRow f g j) := by
    rw [← allRows_row]
    exact funext fun y => hostNrm_bank (allRows f g) _ _ _ _ _ j y
  rw [h1, h2]

instance : Subsingleton S_.Idx := ⟨fun _ _ => funext fun a => a.elim0⟩

theorem and_one {x y : BitVec 1} (h : x &&& y = 1#1) : x = 1#1 ∧ y = 1#1 := by
  revert x y; decide

/-- The precondition, read: long moved rows, and strictly decreasing picks in every row. -/
theorem meaning {f : Feat} {g : Bank} (h : fn (F := Ideal) f g = fun _ => 1#1) :
    (∀ r : Fin 16384, r.val < 4096 → eps ≤ len (bankRow f g r)) ∧
    ∀ (b : Fin 4096) (k : Fin 9), picks (sims f g) sliceFits_S4096x16384_S4096x10 (ix2 b ⟨k.val + 1, by omega⟩)
      < picks (sims f g) sliceFits_S4096x16384_S4096x10 (ix2 b ⟨k.val, by omega⟩) := by
  rw [fn_eq] at h
  obtain ⟨h1, h2⟩ := and_one (congrFun h (fun a => a.elim0))
  constructor
  · intro r hr
    have e := Host.reduce_andi_all _ _ _ _ _ h1 (ix2 (⟨r.val, hr⟩ : Fin 4096) 0)
    have e' : FloatOps.cmpf (F := Ideal) .oge (hostLen (n := 4096) (movedRows f g) reducesTo_S4096x128_S4096_d1 h_S_ bcast_S4096_S4096x1_0
      (ix2 (⟨r.val, hr⟩ : Fin 4096) 0)) eps = 1#1 := e
    rw [hostLen_apply, movedRows_row] at e'
    exact (Ideal.cmp_oge_eq_one _ _).mp e'
  · intro b k
    have e := Host.reduce_andi_all _ _ _ _ _ h2 (ix2 b k)
    generalize picks (sims f g) sliceFits_S4096x16384_S4096x10 = v at e ⊢
    have e0 : extractStridedSlice S4096x9 ![0, 0] v slices_S4096x10_S4096x9_0_0 (ix2 b k) = v (ix2 b ⟨k.val, by omega⟩) := by
      pointwise []
    have e1 : extractStridedSlice S4096x9 ![0, 1] v slices_S4096x10_S4096x9_0_1 (ix2 b k) = v (ix2 b ⟨k.val + 1, by omega⟩) := by
      pointwise []
      exact congrArg (fun q => v (ix2 b q)) (Fin.ext (Nat.add_comm 1 k.val))
    rw [← e0, ← e1]
    exact (Ideal.cmp_ogt_eq_one _ _).mp e

end Cert.Pre_clear_top_ten.Top

end
-- ==== Proof.Equation.lean ====
/-
  The two averages agree: a mean over the rows of one minus a tenth of the row's sum is one minus the whole sum over 40960.
-/
module

public import proofs.«01_k».proof.Proof.KernelRun
public import proofs.«01_k».proof.Proof.PreMeaning

@[expose] public section

set_option maxRecDepth 16384

noncomputable section

namespace Cert.Equation

open Idealize.ShloMosaic Cert.KernelIdeal.Top Cert.Norm Cert.TopTen
open scoped BigOperators

theorem lit_10 : Ideal.ofBits .f32 0x41200000#32 = ((10 : ℝ) : EReal) := by
  simp [Ideal.ofBits, Ideal.ieee, -EReal.coe_mul]
  norm_num

theorem lit_4096 : Ideal.ofBits .f32 0x45800000#32 = ((4096 : ℝ) : EReal) := by
  simp [Ideal.ofBits, Ideal.ieee, -EReal.coe_mul]
  norm_num

theorem lit_40960 : Ideal.ofBits .f32 0x47200000#32 = ((40960 : ℝ) : EReal) := by
  simp [Ideal.ofBits, Ideal.ieee, -EReal.coe_mul]
  norm_num

theorem lit_1 : Ideal.ofBits .f32 0x3F800000#32 = ((1 : ℝ) : EReal) := by
  rw [Ideal.ofBits_one_f32, EReal.coe_one]

theorem div_real (x y : ℝ) (h : y ≠ 0) : Ideal.div (x : EReal) (y : EReal) = ((x / y : ℝ) : EReal) := by
  rw [Ideal.div_coe h, ← EReal.coe_mul, mul_one_div]

/-- The mean of the rows' losses, for row sums that are real numbers. -/
theorem mean_eq (p : Fin 4096 → ℝ) :
    Ideal.div (∑ B : Fin 4096, (Ideal.ofBits .f32 0x3F800000#32 - Ideal.div (p B : EReal) (Ideal.ofBits .f32 0x41200000#32)))
        (Ideal.ofBits .f32 0x45800000#32)
      = Ideal.ofBits .f32 0x3F800000#32 - Ideal.div (∑ B : Fin 4096, (p B : EReal)) (Ideal.ofBits .f32 0x47200000#32) := by
  rw [lit_1, lit_10, lit_4096, lit_40960]
  have h : ∀ B : Fin 4096, ((1 : ℝ) : EReal) - Ideal.div (p B : EReal) ((10 : ℝ) : EReal) = ((1 - p B / 10 : ℝ) : EReal) := fun B => by
    rw [div_real _ _ (by norm_num), ← EReal.coe_sub]
  rw [Finset.sum_congr rfl fun B _ => h B, ← coe_sum, ← coe_sum, div_real _ _ (by norm_num), div_real _ _ (by norm_num), ← EReal.coe_sub]
  congr 1
  rw [Finset.sum_sub_distrib, ← Finset.sum_div, Finset.sum_const, Finset.card_univ, Fintype.card_fin, nsmul_eq_mul]
  norm_num
  ring

end Cert.Equation

end
-- ==== Proof.RefTail.lean ====
/-
  The reference's last steps: the mean over the rows of one minus the mean of the row's ten picks.
-/
module

public import proofs.«01_k».proof.Proof.RefSim
public import proofs.«01_k».proof.Proof.TopK

@[expose] public section

set_option maxRecDepth 16384

noncomputable section

namespace Cert.ReferenceIdeal.Top

open Idealize.ShloMosaic Cert.ReferenceIdeal Cert.ReferenceIdeal.Gen
open Cert.KernelIdeal.Top
open scoped BigOperators

/-- The reference's result as a function of the picks. -/
def refTail (v : FVec Ideal Ten .f32) : FVec Ideal S_ .f32 :=
  Host.divf (Host.reduceAdd (subf (broadcastInDim S4096 ![] bcast_S_S4096 (constant S_ .f32 0x3F800000#32))
    (Host.divf (Host.reduceAdd v (constant S_ .f32 0x00000000#32) reducesTo_S4096x10_S4096_d1 h_S_)
      (broadcastInDim S4096 ![] bcast_S_S4096 (constant S_ .f32 0x41200000#32))))
    (constant S_ .f32 0x00000000#32) reducesTo_S4096_S_d0 h_S_) (constant S_ .f32 0x45800000#32)

theorem refTail_apply (v : FVec Ideal Ten .f32) : refTail v ix0
    = Ideal.div (∑ B : Fin 4096, (Ideal.ofBits .f32 0x3F800000#32
        - Ideal.div (∑ k : Fin 10, v (ix2 B k)) (Ideal.ofBits .f32 0x41200000#32))) (Ideal.ofBits .f32 0x45800000#32) := by
  unfold refTail
  pointwise []

end Cert.ReferenceIdeal.Top

end
-- ==== Proof.PreFacts.lean ====
/-
  The shape facts the precondition's operations take.
-/
module

public import proofs.«01_k».proof.Pre_clear_top_ten

@[expose] public section

set_option synthInstance.maxSize 4096

namespace Cert.Pre_clear_top_ten

open Idealize.ShloMosaic

/-- Every shape relation the precondition states holds. -/
instance facts : Facts where
  reducesTo_S4096x128_S4096_d1 := by decide
  h_S_ := by decide
  bcast_S4096_S4096x1_0 := by decide
  bcast_S_S4096x1 := by decide
  bcast_S4096x1_S4096x128_0_1 := by decide
  slices_S16384x128_S4096x128_0_0 := by decide
  bcast_S_S4096x128 := by decide
  slices_S16384x128_S12288x128_4096_0 := by decide
  concatenates_S4096x128_S12288x128_S16384x128_d0 := by decide
  reducesTo_S16384x128_S16384_d1 := by decide
  bcast_S16384_S16384x1_0 := by decide
  bcast_S_S16384x1 := by decide
  bcast_S16384x1_S16384x128_0_1 := by decide
  transposes_S16384x128_S128x16384_1_0 := by decide
  sliceFits_S4096x16384_S4096x10 := by decide
  reducesTo_S4096x1_S_d0_1 := by decide
  slices_S4096x10_S4096x9_0_0 := by decide
  slices_S4096x10_S4096x9_0_1 := by decide
  reducesTo_S4096x9_S_d0_1 := by decide
  dot_S4096x128_S128x16384_S4096x16384_1_0_0_1_n_n_wf := by decide

end Cert.Pre_clear_top_ten
-- ==== Proof.Agree.lean ====
/-
  Under the precondition the reference's result is the kernel's.
-/
module

public import proofs.«01_k».proof.Proof.Equation
public import proofs.«01_k».proof.Proof.RefTail
public import proofs.«01_k».proof.Proof.PreFacts

@[expose] public section

set_option maxRecDepth 16384

noncomputable section

namespace Cert.Agree

open Idealize.ShloMosaic Idealize.SL.Sem Cert.KernelIdeal.Top Cert.Norm Cert.TopTen
open Cert.ReferenceIdeal (τ sig)
open Cert.ReferenceIdeal.Top (featR bankR refTail refTail_apply v52_apply)
open Cert.Pre_clear_top_ten.Top (sims sims_apply meaning)
open Cert.ReferenceIdeal.Value (res_main_v52)
open scoped BigOperators

variable (V0 : Valuation τ sig (Elt Ideal))

/-- The reference's matrix of similarities is the one the precondition speaks of. -/
theorem v52_eq (h : Cert.Pre_clear_top_ten.fn (F := Ideal) (featR V0) (bankR V0) = fun _ => 1#1) :
    (res_main_v52 V0 : FVec Ideal Sims .f32) = sims (featR V0) (bankR V0) := by
  refine funext fun (i : Sims.Idx) => ?_
  have e : ∀ (b : Fin 4096) (j : Fin 16384), res_main_v52 V0 (ix2 b j) = sims (featR V0) (bankR V0) (ix2 b j) := fun b j =>
    (v52_apply V0 (meaning h).1 b j).trans (sims_apply _ _ b j).symm
  have hi : (ix2 (i 0) (i 1) : Sims.Idx) = i := ix2_eta i
  rw [← hi]
  exact e (i 0) (i 1)

/-- The picks of a row are its ten greatest similarities. -/
theorem picks_eq (h : Cert.Pre_clear_top_ten.fn (F := Ideal) (featR V0) (bankR V0) = fun _ => 1#1)
    (hs : Sims.Slices (fun _ => 0) Ten) (b : Fin 4096) (k : Fin 10) :
    picks (res_main_v52 V0) hs (ix2 b k) = top neg (seen (featR V0) (bankR V0) b 16384) (k.val + 1) := by
  rw [v52_eq V0 h]
  exact picks_top _ _ b (sims_apply _ _ b) ((meaning h).2 b) k

/-- Every pick is a real number. -/
theorem picks_real (h : Cert.Pre_clear_top_ten.fn (F := Ideal) (featR V0) (bankR V0) = fun _ => 1#1)
    (hs : Sims.Slices (fun _ => 0) Ten) (b : Fin 4096) (k : Fin 10) : ∃ r : ℝ, picks (res_main_v52 V0) hs (ix2 b k) = (r : EReal) := by
  obtain ⟨σ, -, -, hp⟩ := picks_row (res_main_v52 V0) hs b
  rw [hp, v52_apply V0 (meaning h).1]
  obtain ⟨r, hr, -⟩ := dot_real (row (featR V0) b) (bankRow (featR V0) (bankR V0) (σ ⟨k.val, by have := k.isLt; omega⟩))
  exact ⟨r, hr⟩

/-- The reference's result, as the kernel computes it. -/
theorem refTail_eq (h : Cert.Pre_clear_top_ten.fn (F := Ideal) (featR V0) (bankR V0) = fun _ => 1#1)
    (hs : Sims.Slices (fun _ => 0) Ten) :
    refTail (picks (res_main_v52 V0) hs) ix0 = Ideal.ofBits .f32 0x3F800000#32
      - Ideal.div (∑ B : Fin 4096, rowSum (featR V0) (bankR V0) B) (Ideal.ofBits .f32 0x47200000#32) := by
  choose p hp using picks_real V0 h hs
  have e : ∀ B : Fin 4096, ∑ k : Fin 10, picks (res_main_v52 V0) hs (ix2 B k) = ((∑ k : Fin 10, p B k : ℝ) : EReal) := fun B => by
    rw [coe_sum]
    exact Finset.sum_congr rfl fun k _ => hp B k
  have e' : ∀ B : Fin 4096, rowSum (featR V0) (bankR V0) B = ((∑ k : Fin 10, p B k : ℝ) : EReal) := fun B => by
    rw [← e B]
    exact Finset.sum_congr rfl fun k _ => (picks_eq V0 h hs B k).symm
  rw [refTail_apply, Finset.sum_congr rfl fun B _ => e' B, ← Equation.mean_eq]
  exact congrArg (fun s => Ideal.div s _) (Finset.sum_congr rfl fun B _ => by rw [e B])

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.ReferenceIdeal.Run
public import proofs.«01_k».proof.Proof.Agree

@[expose] public section

noncomputable section

namespace Cert.Proof

open Idealize.ShloMosaic Idealize.SL.Sem

/-- The reference runs, its arguments end unchanged, and it has no semaphore that could be left above zero. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel and the reference end with the same number. -/
theorem algebraic : Cert.algebraic_KernelIdeal_ReferenceIdeal_pre_clear_top_ten (hKernelIdeal := Cert.KernelIdeal.Gen.facts)
    (hReferenceIdeal := Cert.ReferenceIdeal.Gen.facts) (hPre_clear_top_ten := Cert.Pre_clear_top_ten.facts) := by
  intro m ρ m' ρ' hpre hargs
  refine ⟨fun c => Cert.KernelIdeal.Top.tail (Cert.KernelIdeal.Top.column m c), Cert.KernelIdeal.Top.run m ρ, ?_⟩
  refine (θ_run Cert.ReferenceIdeal.defs _ _).mono (fun r h c => ⟨(h c).1.trans ?_, (h c).2⟩) (Cert.ReferenceIdeal.Value.run (F := Ideal) m' ρ')
  have hf : Cert.ReferenceIdeal.Top.featR (StableHlo.launchContents m' c) = Cert.KernelIdeal.Top.feat m c := (hargs c).1
  have hb : Cert.ReferenceIdeal.Top.bankR (StableHlo.launchContents m' c) = Cert.KernelIdeal.Top.bank m c := (hargs c).2
  funext i
  obtain rfl : i = ix0 := funext fun a => a.elim0
  have hp : Cert.Pre_clear_top_ten.fn (F := Ideal) (Cert.ReferenceIdeal.Top.featR (StableHlo.launchContents m' c))
      (Cert.ReferenceIdeal.Top.bankR (StableHlo.launchContents m' c)) = fun _ => 1#1 := by
    rw [hf, hb]
    exact hpre c
  refine (Cert.Agree.refTail_eq (StableHlo.launchContents m' c) hp _).trans ?_
  rw [hf, hb]
  exact (Cert.KernelIdeal.Top.tail_apply m c ix0).symm

theorem claim : Cert.Claim := ⟨Cert.Kernel.Gen.facts, Cert.KernelIdeal.Gen.facts, Cert.ReferenceIdeal.Gen.facts, Cert.Pre_clear_top_ten.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
